-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_padded_batch [hPre_padded_batch : Cert.Pre_padded_batch.Facts] (m : (ℓ : Loc Cert.KernelIdeal.nD Cert.KernelIdeal.τ Cert.KernelIdeal.sig) → Buf (Elt Ideal) ℓ) : Prop :=
  ∀ c : Dev Cert.KernelIdeal.nD,
    (Cert.Pre_padded_batch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_padded_batch [hPre_padded_batch : Cert.Pre_padded_batch.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_padded_batch.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_padded_batch [hKernelIdeal : Cert.KernelIdeal.Facts] [hPre_padded_batch : Cert.Pre_padded_batch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_padded_batch m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_padded_batch [hReferenceIdeal : Cert.ReferenceIdeal.Facts] [hPre_padded_batch : Cert.Pre_padded_batch.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_padded_batch m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_padded_batch [hKernelIdeal : Cert.KernelIdeal.Facts] [hReferenceIdeal : Cert.ReferenceIdeal.Facts] [hPre_padded_batch : Cert.Pre_padded_batch.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_padded_batch m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_padded_batch : Cert.Pre_padded_batch.Facts),
    quiescent_Kernel (hKernel := hKernel)
    ∧ quiescent_KernelIdeal (hKernelIdeal := hKernelIdeal)
    ∧ quiescent_KernelIdeal_pre_padded_batch (hKernelIdeal := hKernelIdeal) (hPre_padded_batch := hPre_padded_batch)
    ∧ quiescent_ReferenceIdeal (hReferenceIdeal := hReferenceIdeal)
    ∧ quiescent_ReferenceIdeal_pre_padded_batch (hReferenceIdeal := hReferenceIdeal) (hPre_padded_batch := hPre_padded_batch)
    ∧ preserves_Kernel_KernelIdeal
    ∧ algebraic_KernelIdeal_ReferenceIdeal_pre_padded_batch (hKernelIdeal := hKernelIdeal) (hReferenceIdeal := hReferenceIdeal) (hPre_padded_batch := hPre_padded_batch)
-- ==== Pre_padded_batch.lean ====
abbrev S16x2048x256 : Shape := ⟨3, ![16, 2048, 256]⟩
abbrev S16x2048x1 : Shape := ⟨3, ![16, 2048, 1]⟩
abbrev S16 : Shape := ⟨1, ![16]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩
abbrev S16x1x1 : Shape := ⟨3, ![16, 1, 1]⟩

class Facts : Prop where
  bcast_S_S16 : S_.BroadcastsInDim S16 (![] : Fin 0 → Fin S16.rank)
  bcast_S16_S16x1x1_0 : S16.BroadcastsInDim S16x1x1 (![0] : Fin 1 → Fin S16x1x1.rank)
  bcast_S16x1x1_S16x2048x1_0_1_2 : S16x1x1.BroadcastsInDim S16x2048x1 (![0, 1, 2] : Fin 3 → Fin S16x2048x1.rank)
  bcast_S_S16x2048x1 : S_.BroadcastsInDim S16x2048x1 (![] : Fin 0 → Fin S16x2048x1.rank)
  reducesTo_S16_S_d0 : S16.ReducesTo [0] S_
  h_S_ : 0 < S_.numel
  reducesTo_S16x2048x1_S_d0_1_2 : S16x2048x1.ReducesTo [0, 1, 2] S_
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_

variable [Facts]

def fn_where {F : FTy → Type} [FloatOps F] (arg0 : IVec S16x2048x1 1) (arg1 : FVec F S_ .f32) (arg2 : FVec F S_ .f32) : FVec F S16x2048x1 .f32 :=
  let v0 : FVec F S16x2048x1 .f32 := broadcastInDim S16x2048x1 ![] bcast_S_S16x2048x1 arg1
  let v1 : FVec F S16x2048x1 .f32 := broadcastInDim S16x2048x1 ![] bcast_S_S16x2048x1 arg2
  let v2 : FVec F S16x2048x1 .f32 := select arg0 v0 v1
  v2

def fn_part1 {F : FTy → Type} [FloatOps F] (main_arg5 : FVec F S512x512 .f32) (main_v14 : IVec S_ 1) (main_v15 : FVec F S256x512 .f32) (main_v16 : FVec F S256x512 .f32) : IVec S_ 1 :=
  let main_v17 : IVec S256x512 1 := cmpf .olt main_v15 main_v16
  let main_c_5 : IVec S_ 1 := constantI S_ 1 1#1
  let main_v18 : IVec S_ 1 := (fun x v => Host.reduce IntOp.andi x v reducesTo_S256x512_S_d0_1 h_S_) main_v17 main_c_5
  let main_v19 : IVec S_ 1 := andi main_v14 main_v18
  let main_v20 : FVec F S512x512 .f32 := Host.absf main_arg5
  let main_cst_6 : FVec F S_ .f32 := constant S_ .f32 0x7F800000#32
  let main_v21 : FVec F S512x512 .f32 := broadcastInDim S512x512 ![] bcast_S_S512x512 main_cst_6
  let main_v22 : IVec S512x512 1 := cmpf .olt main_v20 main_v21
  let main_c_7 : IVec S_ 1 := constantI S_ 1 1#1
  let main_v23 : IVec S_ 1 := (fun x v => Host.reduce IntOp.andi x v reducesTo_S512x512_S_d0_1 h_S_) main_v22 main_c_7
  let main_v24 : IVec S_ 1 := andi main_v19 main_v23
  main_v24

def fn {F : FTy → Type} [FloatOps F] (main_arg0 : FVec F S16x2048x256 .f32) (main_arg1 : FVec F S16x2048x1 .f32) (main_arg2 : IVec S16 32) (main_arg3 : FVec F S256x512 .f32) (main_arg4 : FVec F S512 .f32) (main_arg5 : FVec F S512x512 .f32) (main_arg6 : FVec F S512 .f32) (main_arg7 : FVec F S512x1 .f32) (main_arg8 : FVec F S1 .f32) : IVec S_ 1 :=
  let main_c : IVec S_ 32 := constantI S_ 32 0#32
  let main_v0 : IVec S16 32 := broadcastInDim S16 ![] bcast_S_S16 main_c
  let main_v1 : IVec S16 1 := cmpi .sge main_arg2 main_v0
  let main_c_0 : IVec S_ 32 := constantI S_ 32 2048#32
  let main_v2 : IVec S16 32 := broadcastInDim S16 ![] bcast_S_S16 main_c_0
  let main_v3 : IVec S16 1 := cmpi .sle main_arg2 main_v2
  let main_v4 : IVec S16 1 := andi main_v1 main_v3
  let main_v5 : IVec S16x2048x1 32 := iotaInDim S16x2048x1 32 1
  let main_v6 : IVec S16x1x1 32 := broadcastInDim S16x1x1 ![0] bcast_S16_S16x1x1_0 main_arg2
  let main_v7 : IVec S16x2048x1 32 := broadcastInDim S16x2048x1 ![0, 1, 2] bcast_S16x1x1_S16x2048x1_0_1_2 main_v6
  let main_v8 : IVec S16x2048x1 1 := cmpi .slt main_v5 main_v7
  let main_cst : FVec F S_ .f32 := constant S_ .f32 0x3F800000#32
  let main_cst_1 : FVec F S_ .f32 := constant S_ .f32 0x00000000#32
  let main_v9 : FVec F S16x2048x1 .f32 := fn_where (F := F) main_v8 main_cst main_cst_1
  let main_c_2 : IVec S_ 1 := constantI S_ 1 1#1
  let main_v10 : IVec S_ 1 := (fun x v => Host.reduce IntOp.andi x v reducesTo_S16_S_d0 h_S_) main_v4 main_c_2
  let main_v11 : FVec F S16x2048x1 .f32 := id main_v9
  let main_v12 : IVec S16x2048x1 1 := cmpf .oeq main_arg1 main_v11
  let main_c_3 : IVec S_ 1 := constantI S_ 1 1#1
  let main_v13 : IVec S_ 1 := (fun x v => Host.reduce IntOp.andi x v reducesTo_S16x2048x1_S_d0_1_2 h_S_) main_v12 main_c_3
  let main_v14 : IVec S_ 1 := andi main_v10 main_v13
  let main_v15 : FVec F S256x512 .f32 := Host.absf main_arg3
  let main_cst_4 : FVec F S_ .f32 := constant S_ .f32 0x7F800000#32
  let main_v16 : FVec F S256x512 .f32 := broadcastInDim S256x512 ![] bcast_S_S256x512 main_cst_4
  fn_part1 (F := F) main_arg5 main_v14 main_v15 main_v16
-- ==== Kernel.lean ====
abbrev S16x2048x256 : Shape := ⟨3, ![16, 2048, 256]⟩
abbrev S16x2048x1 : Shape := ⟨3, ![16, 2048, 1]⟩
abbrev S16 : Shape := ⟨1, ![16]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S1x512 : Shape := ⟨2, ![1, 512]⟩
abbrev S1x1 : Shape := ⟨2, ![1, 1]⟩
abbrev S1x2048x256 : Shape := ⟨3, ![1, 2048, 256]⟩
abbrev S4x512 : Shape := ⟨2, ![4, 512]⟩
abbrev S1x512x256 : Shape := ⟨3, ![1, 512, 256]⟩
abbrev S512x256 : Shape := ⟨2, ![512, 256]⟩
abbrev S1x1x512 : Shape := ⟨3, ![1, 1, 512]⟩
abbrev S1x1x1 : Shape := ⟨3, ![1, 1, 1]⟩

abbrev nBuf : Space → Nat
  | .hbm => 19
  | .vmem => 10
  | .smem => 3
  | _ => 0

abbrev bufTy : (tb : Table) → Fin (tcTables nBuf tb) → BufTy
  | .hbm, ⟨0, _⟩ => ⟨S16x2048x256, .f32⟩
  | .hbm, ⟨1, _⟩ => ⟨S16x2048x1, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S256x512, .bf16⟩
  | .hbm, ⟨9, _⟩ => ⟨S256x512, .f32⟩
  | .hbm, ⟨10, _⟩ => ⟨S256x512, .f32⟩
  | .hbm, ⟨11, _⟩ => ⟨S512x512, .bf16⟩
  | .hbm, ⟨12, _⟩ => ⟨S512x512, .f32⟩
  | .hbm, ⟨13, _⟩ => ⟨S512x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x1, .f32⟩
  | .hbm, ⟨18, _⟩ => ⟨S16, .f32⟩
  | .local _ .vmem, ⟨0, _⟩ => ⟨S1x2048x256, .f32⟩
  | .local _ .vmem, ⟨1, _⟩ => ⟨S1x2048x256, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S4x512, .f32⟩
  | .local _ .smem, ⟨0, _⟩ => ⟨S16, .i32⟩
  | .local _ .smem, ⟨1, _⟩ => ⟨S1x1, .f32⟩
  | .local _ .smem, ⟨2, _⟩ => ⟨S16, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_stg8_0 : Ref sig .tc := ⟨.smem, 1, rfl⟩
abbrev cc0_stg9_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v71 : Index := Scalar.indexCast arg0
  ![v71.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16x2048x256 : Shape := ⟨3, ![16, 2048, 256]⟩
abbrev S16x2048x1 : Shape := ⟨3, ![16, 2048, 1]⟩
abbrev S16 : Shape := ⟨1, ![16]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S32768x256 : Shape := ⟨2, ![32768, 256]⟩
abbrev S32768x512 : Shape := ⟨2, ![32768, 512]⟩
abbrev S1x512 : Shape := ⟨2, ![1, 512]⟩
abbrev S_ : Shape := ⟨0, ![]⟩
abbrev S32768x1 : Shape := ⟨2, ![32768, 1]⟩
abbrev S1x1 : Shape := ⟨2, ![1, 1]⟩
abbrev S16x2048 : Shape := ⟨2, ![16, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x1, .f32⟩
  | .hbm, ⟨2, _⟩ => ⟨S16, .i32⟩
  | .hbm, ⟨3, _⟩ => ⟨S256x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S32768x256, .f32⟩
  | .hbm, ⟨10, _⟩ => ⟨S32768x512, .f32⟩
  | .hbm, ⟨11, _⟩ => ⟨S1x512, .f32⟩
  | .hbm, ⟨12, _⟩ => ⟨S32768x512, .f32⟩
  | .hbm, ⟨13, _⟩ => ⟨S32768x512, .f32⟩
  | .hbm, ⟨14, _⟩ => ⟨S_, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S1x512, .f32⟩
  | .hbm, ⟨19, _⟩ => ⟨S32768x512, .f32⟩
  | .hbm, ⟨20, _⟩ => ⟨S32768x512, .f32⟩
  | .hbm, ⟨21, _⟩ => ⟨S_, .f32⟩
  | .hbm, ⟨22, _⟩ => ⟨S32768x512, .f32⟩
  | .hbm, ⟨23, _⟩ => ⟨S32768x512, .f32⟩
  | .hbm, ⟨24, _⟩ => ⟨S32768x1, .f32⟩
  | .hbm, ⟨25, _⟩ => ⟨S1x1, .f32⟩
  | .hbm, ⟨26, _⟩ => ⟨S32768x1, .f32⟩
  | .hbm, ⟨27, _⟩ => ⟨S32768x1, .f32⟩
  | .hbm, ⟨28, _⟩ => ⟨S16x2048, .f32⟩
  | .hbm, ⟨29, _⟩ => ⟨S16x2048, .f32⟩
  | .hbm, ⟨30, _⟩ => ⟨S16x2048, .f32⟩
  | .hbm, ⟨31, _⟩ => ⟨S_, .f32⟩
  | .hbm, ⟨32, _⟩ => ⟨S16, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_cst : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Proof.Own.SameProgram.lean ====
/- The kernel as printed and its ideal reading are one program, at any instance: no operation was rewritten. What is proved of the
   second at every instance holds of the first. -/
module

public import proofs.«01_k».proof.Proof.Gen.Kernel
public import proofs.«01_k».proof.Proof.Gen.KernelIdeal

@[expose] public section

set_option maxRecDepth 16384

noncomputable section

namespace Cert.Kernel.Own

open Idealize.ShloMosaic Idealize.SL.Sem

variable {F : FTy → Type} [FloatOps F]

/-! The pieces of the body, one by one. -/

set_option maxHeartbeats 400000 in
theorem part1_eq : @Cert.Kernel.k0_part1 F _ _ = @Cert.KernelIdeal.k0_part1 F _ _ := rfl
set_option maxHeartbeats 400000 in
theorem part2_eq : @Cert.Kernel.k0_part2 F _ _ = @Cert.KernelIdeal.k0_part2 F _ _ := rfl
set_option maxHeartbeats 400000 in
theorem part3_eq : @Cert.Kernel.k0_part3 F _ _ = @Cert.KernelIdeal.k0_part3 F _ _ := rfl
set_option maxHeartbeats 400000 in
theorem part4_eq : @Cert.Kernel.k0_part4 F _ _ = @Cert.KernelIdeal.k0_part4 F _ _ := rfl
set_option maxHeartbeats 400000 in
theorem part5_eq : @Cert.Kernel.k0_part5 F _ _ = @Cert.KernelIdeal.k0_part5 F _ _ := rfl

/-- The bodies are the same. -/
theorem body_eq : @Cert.Kernel.cc0__body F _ _ = @Cert.KernelIdeal.cc0__body F _ _ := by
  delta Cert.Kernel.cc0__body Cert.KernelIdeal.cc0__body
  rw [part4_eq, part5_eq]
  rfl

/-- The body tables are the same. -/
theorem bodies_eq : @Cert.Kernel.defs₀ F _ _ = @Cert.KernelIdeal.defs₀ F _ _ := by
  delta Cert.Kernel.defs₀ Cert.KernelIdeal.defs₀
  rw [body_eq]
  refine congrArg Defs.onTc (funext fun l => funext fun a => ?_)
  match l, a with
  | 0, (t, s) => rfl

/-- So are the tables with the pipeline, -/
theorem defs_eq : @Cert.Kernel.defs F _ _ = @Cert.KernelIdeal.defs F _ _ := by
  delta Cert.Kernel.defs Cert.KernelIdeal.defs
  rw [bodies_eq]
  rfl

/-- and so is @main. -/
theorem main_eq : @Cert.Kernel.main F _ _ = @Cert.KernelIdeal.main F _ _ := rfl

end Cert.Kernel.Own

end
-- ==== Proof.Own.Kit.lean ====
/- The launch set-up of the idealized kernel: what @main's host operations leave before the region, the prefetched table,
   the windows' blocks and the frame read off the region's post. Everything is stated of any instance `F`. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.DatRel
public import Idealize.ShloMosaic.Lib.Pipeline.ArrRel
public import Idealize.ShloMosaic.Lib.Tactic

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What the buffers of core `c` hold when the region starts: the host operations have run. -/
abbrev atRegion (c : Dev nD) (b : Ref sig .tc) : Buf (Elt F) ((c : Thread nD τ).loc b) :=
  StableHlo.after hostOps0 (fun b => m (c, b)) b

/-- No host operation allocates a buffer. -/
theorem host_fresh : (hostOps0 : List (HloOp τ sig (Elt F))).Forall fun op => op.fresh = ∅ := by
  simp only [List.Forall]; repeat' constructor

set_option maxHeartbeats 800000 in
/-- @main is the host operations, then the region. -/
theorem main_shape (𝒱₀ : Variants) :
    Pipeline.HMainP (Ix := Unit) (Name := ℕ) (U := UR sig nD τ) (Lvl := ℕ) pcfgs 0 defs₀ 𝒱₀ m (main (F := F)) (atRegion m) :=
  Pipeline.hmainP_prefix pcfgs 0 defs₀ 𝒱₀ m main hostOps0 hostOps0_sub host_fresh main_chain

/-- A buffer that is none of the ten values the host operations compute is, at the region, as it was at the launch. -/
theorem atRegion_of_ne (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) :
    atRegion m c b = m ((c : Thread nD τ).loc b) := by
  obtain ⟨h0, h1, h2, h3, h4, h5, h6, h7, h8, h9⟩ := hb
  refine StableHlo.after_of_forall_not_mem (b := Proc.devRef .tc b) _ _ (List.forall_iff_forall_mem.mp ?_)
  simp only [hostOps0, List.Forall, StableHlo.unary_writes, StableHlo.binary_writes, StableHlo.reshape_writes,
    Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5,
    StableHlo.devRef_ne_of_ne h6, StableHlo.devRef_ne_of_ne h7, StableHlo.devRef_ne_of_ne h8, StableHlo.devRef_ne_of_ne h9⟩

/-! ## The prefetched table of lengths -/

/-- What the prefetched table holds when the region starts. -/
def table : pre0.Contents (Elt F) := fun j => atRegion m (0 : Dev nD) (pre0.ref j)

/-- Every device sees that table: there is one device. -/
theorem table_eq (c : Dev nD) (j : Fin 1) : atRegion m c (pre0.ref j) = table m j := by
  obtain rfl : c = 0 := Subsingleton.elim _ _
  rfl

/-- Every table is admissible: no index map reads it. -/
abbrev admTable : (pcfg0 (F := F)).Adm := ⟨table m, trivial⟩

/-- The pipeline at that table. -/
abbrev pipe : Pipeline.Cfg sig Λ₀ := cfg0 (admTable m)

/-- The table as the body is handed it. -/
abbrev lens : Memref sig .tc .smem S16 .i32 := Memref.whole main_arg2
/-- It is a whole buffer. -/
abbrev lens_whole : lens.IsWhole := Memref.isWhole_whole _

/-- What a buffer holds, at a memref of it. -/
abbrev HeldBuf (c : Dev nD) {S : Shape} {e : EltTy} (M : Memref sig .tc .smem S e) : Type :=
  Buf (Elt F) (M.view.loc (c : Thread nD τ))

/-- The half of a table's buffer that the body reads through. -/
abbrev heldHalf (c : Dev nD) {S : Shape} {e : EltTy} (M : Memref sig .tc .smem S e) (f : HeldBuf (F := F) c M) : sProp 𝕄 :=
  M.view.loc (c : Thread nD τ) ↦{fullShare.right} f

/-- The tables' halves are the half of the one table. -/
theorem tables_eq (c : Dev nD) : (Pipeline.ΦT pre0 (table m) c : sProp 𝕄) = heldHalf c lens (table m 0) := by
  unfold Pipeline.ΦT Pipeline.prefHeld
  rw [show (Finset.univ : Finset (Fin 1)) = {(0 : Fin 1)} from by decide, bigSep_singleton]
  rfl

/-- The scratch rows as the body is handed them. -/
abbrev scratch : Memref sig .tc .vmem S4x512 .f32 := Memref.whole cc0_scratch0

/-- What the region's invariant keeps beside the windows: the scratch rows at some contents, and the generator register. -/
theorem scratch_eq (c : Dev nD) :
    (Pipeline.ΦA spec0 c : sProp 𝕄)
      = iprop(iprop((∃ d, owns (c : Thread nD τ) scratch fullShare d)) ∗ (∃ r, prngReg c r)) := by
  unfold Pipeline.ΦA
  rw [scopedRest0_eq]
  simp only [scratch, owns_whole]
  try rfl

/-! ## The windows' blocks -/

/-- The block of window `w` at point `t`, read off its array as the region finds it. -/
def blockAt (c : Dev nD) (w : Fin (pipe m).W) (t : Fin (pipe m).N) :
    (((pipe m).win w).xblock ((pipe m).grid.coords t)).Idx → Elt F ((pipe m).win w).elt :=
  (((pipe m).win w).blk t).view.read (Elt F) (atRegion m c (Pipeline.arrRef spec0 w))

/-- The output window is not fetched. -/
theorem fetch_out (t : Fin (pipe m).N) : ((pipe m).win 9).fetch t = false := rfl

/-- The output window is written back at the last point only: its index map is constant. -/
theorem flush_out (t : Fin (pipe m).N) : ((pipe m).win 9).flush t = true ↔ t.val % 16 = 15 :=
  (fun t => Pipeline.Window.flushOf_const cc0_transform_9 (fun _ _ => rfl) (n := 16) (by decide) rfl t :
    ∀ t : Fin grid0.N, Pipeline.Window.flushOf grid0 true cc0_transform_9 t = true ↔ t.val % 16 = 15) t

/-- The kernel body as the pipeline calls it at point `t`. -/
theorem body_row (t : Fin (pipe m).N) :
    defs₀ (F := F) .tc (pipe m).body ((pipe m).bodyArgs t ((pipe m).slots t))
      = cc0__body (grid0.coords t) lens lens_whole
          (spec0_0.stage ((pipe m).slots t 0)) (hstage0_0 (((pipe m).slots t 0).cast nbuf0_0))
          (spec0_1.stage ((pipe m).slots t 1)) (hstage0_1 (((pipe m).slots t 1).cast nbuf0_1))
          (spec0_2.stage ((pipe m).slots t 2)) (hstage0_2 (((pipe m).slots t 2).cast nbuf0_2))
          (spec0_3.stage ((pipe m).slots t 3)) (hstage0_3 (((pipe m).slots t 3).cast nbuf0_3))
          (spec0_4.stage ((pipe m).slots t 4)) (hstage0_4 (((pipe m).slots t 4).cast nbuf0_4))
          (spec0_5.stage ((pipe m).slots t 5)) (hstage0_5 (((pipe m).slots t 5).cast nbuf0_5))
          (spec0_6.stage ((pipe m).slots t 6)) (hstage0_6 (((pipe m).slots t 6).cast nbuf0_6))
          (spec0_7.stage ((pipe m).slots t 7)) (hstage0_7 (((pipe m).slots t 7).cast nbuf0_7))
          (spec0_8.stage ((pipe m).slots t 8)) (hstage0_8 (((pipe m).slots t 8).cast nbuf0_8))
          (spec0_9.stage ((pipe m).slots t 9)) (hstage0_9 (((pipe m).slots t 9).cast nbuf0_9))
          scratch (Memref.isWhole_whole _) := by
  unfold defs₀
  rw [Defs.onTc_tc]

/-! ## The arguments end unchanged -/

/-- Whatever proof data the region is run with, as long as its arrays are what the region finds, the region's post says
    that the nine arguments end as they were launched. -/
theorem args_unchanged
    (rdat : (c : Dev nD) → Pipeline.RDat τ (Elt F) Unit ℕ (UR sig nD τ) ℕ ((Pipeline.pin pcfgs fun _ => admTable m) 0) c)
    (hA : ∀ c w, (rdat c).A w = atRegion m c (Pipeline.arrRef spec0 w)) {r : PUnit × MemSt nD τ sig (Elt F)}
    (h : Pipeline.RDat.FramePost ((Pipeline.pin pcfgs fun _ => admTable m) 0) rdat (atRegion m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  have arg : ∀ b : Ref sig .tc, b ∈ Pipeline.restRefs sig spec0 →
      (b ≠ main_v0 ∧ b ≠ main_v1 ∧ b ≠ main_v2 ∧ b ≠ main_v3 ∧ b ≠ main_v4 ∧ b ≠ main_v5 ∧ b ≠ main_v6 ∧ b ≠ main_v7
        ∧ b ≠ main_v8 ∧ b ≠ main_v9) →
      r.2.mem ((c.tc : Thread nD τ).loc b) = m ((c.tc : Thread nD τ).loc b) :=
    fun b hb hn => ((h c).2 b hb).trans (atRegion_of_ne m c b hn)
  exact ⟨(Pipeline.RDat.FramePost.arr_in h c 0 rfl).trans ((hA c 0).trans (atRegion_of_ne m c main_arg0 (by decide))),
    arg _ (by decide) (by decide), arg _ (by decide) (by decide), arg _ (by decide) (by decide),
    arg _ (by decide) (by decide), arg _ (by decide) (by decide), arg _ (by decide) (by decide),
    arg _ (by decide) (by decide), arg _ (by decide) (by decide)⟩

end Cert.KernelIdeal.Own

end
-- ==== Proof.Own.Run.lean ====
/- What the kernel body does at one grid point: it runs, and the one word of the output that it stores is `bodyWord` of
   what its operands hold. The four stretches of 512 rows are summed into four scratch rows; a stretch that starts at or past the
   length is skipped and its scratch row stays zero. -/
module

public import proofs.«01_k».proof.Proof.Own.Kit
public import Idealize.ShloMosaic.Lib.WritesUnit
public import Idealize.ShloMosaic.Lib.VecWindow
public import Idealize.ShloMosaic.Lib.WordCmp
public import Idealize.ShloMosaic.Lib.Pointwise.Index

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal.Gen

variable {F : FTy → Type} [FloatOps F]

local notation "𝕄" => MT nD τ sig Unit (Elt F) ℕ (UR sig nD τ) ℕ

/-! ## The word, as a function of the operands -/

/-- The word of lengths that the body reads at point `i`. -/
abbrev lenAt (c : Dev nD) (i : grid0.Coords) (xt : HeldBuf (F := F) c lens) : BitVec 32 :=
  lens.view.readAt (Elt F) (Rect.unit (s := S16) (k0_off1 i) S1.size (k0_off1_inb i)).toLoadRect xt
    (Shape.Idx.first (numel1_S1.symm ▸ Nat.one_pos))

/-- The body's branch condition: the length `v` is past row `n`. -/
abbrev past (v n : BitVec 32) : Prop := Scalar.cmpi .ne (Scalar.extui (Scalar.cmpi .sgt v n)) 0#32 = 1#1

/-- The condition is the comparison of the two words as signed integers. -/
theorem past_iff (v n : BitVec 32) : past v n ↔ n.toInt < v.toInt := by
  show IntOp.cmpi .ne (Scalar.extui (BitVec.ofBool (decide (n.toInt < v.toInt)))) 0#32 = 1#1 ↔ _
  by_cases h : n.toInt < v.toInt
  · simp only [h, decide_true]; decide
  · simp only [h, decide_false]; decide

/-- The word of the output that point `i` stores is word `i`. -/
theorem off_word (i : grid0.Coords) : k0_off2 i = ![(i 0).val] := by
  have h : (i 0).val < 16 := (i 0).isLt
  have e : (Scalar.indexCast (BitVec.ofNat 32 (i 0).val)).toNat = (i 0).val := by
    simp [Scalar.indexCast]; omega
  show ![(Scalar.indexCast (BitVec.ofNat 32 (i 0).val)).toNat] = _
  rw [e]

/-- The masked sum over rows 0 to 511. -/
def stretch0 (v : BitVec 32) (x2 : Vec F S1x2048x256 .f32) (x3 : Vec F S256x512 .f32) (x4 : Vec F S256x512 .f32) (x5 : Vec F S1x512 .f32) (x6 : Vec F S512x512 .f32) (x7 : Vec F S512x512 .f32) (x8 : Vec F S1x512 .f32) : Vec F S1x512 .f32 :=
  k0_pay6 v (k0_pay5 (View.ld x2 (Rect.unit (s := S1x2048x256) ![0, 0, 0] S1x512x256.size inb_S1x2048x256_S1x512x256_0_0_0)) x3 x4 x5 x6 x7 x8)

/-- The masked sum over rows 512 to 1023. -/
def stretch1 (v : BitVec 32) (x2 : Vec F S1x2048x256 .f32) (x3 : Vec F S256x512 .f32) (x4 : Vec F S256x512 .f32) (x5 : Vec F S1x512 .f32) (x6 : Vec F S512x512 .f32) (x7 : Vec F S512x512 .f32) (x8 : Vec F S1x512 .f32) : Vec F S1x512 .f32 :=
  k0_pay7 (k0_pay1 v (View.ld x2 (Rect.unit (s := S1x2048x256) ![0, 512, 0] S1x512x256.size inb_S1x2048x256_S1x512x256_0_512_0)) x3 x4 x5 x6 x7 x8)

/-- The masked sum over rows 1024 to 1535. -/
def stretch2 (v : BitVec 32) (x2 : Vec F S1x2048x256 .f32) (x3 : Vec F S256x512 .f32) (x4 : Vec F S256x512 .f32) (x5 : Vec F S1x512 .f32) (x6 : Vec F S512x512 .f32) (x7 : Vec F S512x512 .f32) (x8 : Vec F S1x512 .f32) : Vec F S1x512 .f32 :=
  k0_pay8 (k0_pay2 v (View.ld x2 (Rect.unit (s := S1x2048x256) ![0, 1024, 0] S1x512x256.size inb_S1x2048x256_S1x512x256_0_1024_0)) x3 x4 x5 x6 x7 x8)

/-- The masked sum over rows 1536 to 2047. -/
def stretch3 (v : BitVec 32) (x2 : Vec F S1x2048x256 .f32) (x3 : Vec F S256x512 .f32) (x4 : Vec F S256x512 .f32) (x5 : Vec F S1x512 .f32) (x6 : Vec F S512x512 .f32) (x7 : Vec F S512x512 .f32) (x8 : Vec F S1x512 .f32) : Vec F S1x512 .f32 :=
  k0_pay9 (k0_pay3 v (View.ld x2 (Rect.unit (s := S1x2048x256) ![0, 1536, 0] S1x512x256.size inb_S1x2048x256_S1x512x256_0_1536_0)) x3 x4 x5 x6 x7 x8)

/-- The four scratch rows when they are added up: a stretch's sum if the stretch ran, else zero. -/
def rowSums (v : BitVec 32) (x2 : Vec F S1x2048x256 .f32) (x3 : Vec F S256x512 .f32) (x4 : Vec F S256x512 .f32) (x5 : Vec F S1x512 .f32) (x6 : Vec F S512x512 .f32) (x7 : Vec F S512x512 .f32) (x8 : Vec F S1x512 .f32) : Vec F S4x512 .f32 := fun y =>
  if (y 0).val = 3 ∧ past v 1536#32 then stretch3 v x2 x3 x4 x5 x6 x7 x8 (ix2 0 (y 1))
  else if (y 0).val = 2 ∧ past v 1024#32 then stretch2 v x2 x3 x4 x5 x6 x7 x8 (ix2 0 (y 1))
  else if (y 0).val = 1 ∧ past v 512#32 then stretch1 v x2 x3 x4 x5 x6 x7 x8 (ix2 0 (y 1))
  else if (y 0).val = 0 then stretch0 v x2 x3 x4 x5 x6 x7 x8 (ix2 0 (y 1))
  else k0_pay4 y

/-- The word that the body stores: the scratch rows summed, dotted with the last layer's weights, plus the last bias once
    per row of the length. -/
def bodyWord (v : BitVec 32) (x2 : Vec F S1x2048x256 .f32) (x3 : Vec F S256x512 .f32) (x4 : Vec F S256x512 .f32) (x5 : Vec F S1x512 .f32) (x6 : Vec F S512x512 .f32) (x7 : Vec F S512x512 .f32) (x8 : Vec F S1x512 .f32) (x9 : Vec F S1x512 .f32) (x10 : Vec F S1x1 .f32) : F .f32 :=
  k0_pay10 v (rowSums v x2 x3 x4 x5 x6 x7 x8) x9 (x10 (ix2 0 0))

/-! ## Reading back what was stored -/

/-- A read of the scratch rows whose newest store is one whole row `o`. -/
theorem read_row {κ : Kind} {sp : Space} (v : View sig κ sp S4x512 .f32) (f : v.ty.Contents (Elt F)) (o : ℕ)
    (inb : ∀ a, ![o, 0] a + S1x512.size a ≤ S4x512.size a) (w : Vec F S1x512 .f32) (L : List (View.Piece (Elt F) S4x512 .f32))
    (y : S4x512.Idx) :
    v.read (Elt F) (v.writes (Elt F) f (⟨Rect.unit (s := S4x512) ![o, 0] S1x512.size inb, w⟩ :: L)) y
      = if (y 0).val = o then w (ix2 0 (y 1)) else v.read (Elt F) (v.writes (Elt F) f L) y := by
  split
  · next h =>
    exact View.read_writes_cons_rows_of_mem v f inb w L y (ix2 0 (y 1)) rfl (by simpa using h) rfl
  · next h =>
    exact View.read_writes_cons_rows_of_not_mem v f inb w L y rfl (W := 1) rfl (by omega)

/-- A read of the output's words after one of them, at `o`, was stored. -/
theorem read_word {κ : Kind} {sp : Space} (v : View sig κ sp S16 .f32) (f : v.ty.Contents (Elt F)) (off : Fin 1 → ℕ) (o : ℕ)
    (hoff : off = ![o]) (inb : ∀ a, off a + S1.size a ≤ S16.size a) (w : F .f32) (y : S16.Idx) :
    v.read (Elt F) (v.writes (Elt F) f [⟨Rect.unit (s := S16) off S1.size inb, fun _ => w⟩]) y
      = if (y 0).val = o then w else v.read (Elt F) f y := by
  split
  · next h =>
    exact View.read_writes_cons_unit_of_mem v f inb (fun _ => w) [] y (fun a => ⟨0, by rw [show a = 0 from Subsingleton.elim (α := Fin 1) _ _]; exact Nat.one_pos⟩) hoff
      (Fin.forall_fin_one.mpr h)
  · next h =>
    exact (View.read_writes_cons_unit_of_not_mem v f inb (fun _ => w) [] y hoff 0
      (by show (y 0).val < o ∨ o + 1 ≤ (y 0).val; omega)).trans rfl

/-- A choice on two conditions of which the second holds is a choice on the first. -/
theorem ite_and_true {α : Type} {p q : Prop} [Decidable p] [Decidable (p ∧ q)] (h : q) (a b : α) :
    (if p ∧ q then a else b) = if p then a else b := if_congr (and_iff_left h) rfl rfl

/-- A choice on two conditions of which the second fails is the second value. -/
theorem ite_and_false {α : Type} {p q : Prop} [Decidable (p ∧ q)] (h : ¬ q) (a b : α) :
    (if p ∧ q then a else b) = b := if_neg fun hpq => h hpq.2

/-- The only index of a 1 by 1 block. -/
theorem first_eq (h : 0 < S1x1.numel) : Shape.Idx.first h = ix2 0 0 := by
  funext a; match a with | 0 => exact Subsingleton.elim (α := Fin 1) _ _ | 1 => exact Subsingleton.elim (α := Fin 1) _ _

set_option maxHeartbeats 1000000 in
/-- The body at point `i`, on whole buffers: it runs, leaves its operands as they were, and leaves in the output's buffer
    what it found there but for word `i`, which is `bodyWord` of the operands. -/
theorem body_run (c : Dev nD) (i : grid0.Coords) (arg2 : Memref sig .tc .vmem S1x2048x256 .f32) (harg2 : arg2.IsWhole)
    (arg3 : Memref sig .tc .vmem S256x512 .f32) (harg3 : arg3.IsWhole)
    (arg4 : Memref sig .tc .vmem S256x512 .f32) (harg4 : arg4.IsWhole)
    (arg5 : Memref sig .tc .vmem S1x512 .f32) (harg5 : arg5.IsWhole)
    (arg6 : Memref sig .tc .vmem S512x512 .f32) (harg6 : arg6.IsWhole)
    (arg7 : Memref sig .tc .vmem S512x512 .f32) (harg7 : arg7.IsWhole)
    (arg8 : Memref sig .tc .vmem S1x512 .f32) (harg8 : arg8.IsWhole)
    (arg9 : Memref sig .tc .vmem S1x512 .f32) (harg9 : arg9.IsWhole)
    (arg10 : Memref sig .tc .smem S1x1 .f32) (harg10 : arg10.IsWhole)
    (arg11 : Memref sig .tc .smem S16 .f32) (harg11 : arg11.IsWhole)
    (arg12 : Memref sig .tc .vmem S4x512 .f32) (harg12 : arg12.IsWhole)
    (x2 : Vec F S1x2048x256 .f32) (x3 : Vec F S256x512 .f32) (x4 : Vec F S256x512 .f32) (x5 : Vec F S1x512 .f32) (x6 : Vec F S512x512 .f32) (x7 : Vec F S512x512 .f32) (x8 : Vec F S1x512 .f32) (x9 : Vec F S1x512 .f32) (x10 : Vec F S1x1 .f32) (x11 : Vec F S16 .f32)
    (xt : HeldBuf (F := F) c lens) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ heldHalf c lens xt
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (fun y => if (y 0).val = (i 0).val then bodyWord (lenAt c i xt) x2 x3 x4 x5 x6 x7 x8 x9 x10 else x11 y)
            ∗ (∃ d, owns (c : Thread nD τ) arg12 fullShare d) ∗ heldHalf c lens xt) -∗ K ⟨⟩))
      ⊢ wp frame (wpE (defs₀ (F := F)) Variants.none c none) E (cc0__body i lens lens_whole arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part4_eq_skeleton, k0_part5_eq_skeleton, k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, HT, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  have e3 : View.readAt (Elt F) arg3.view (Rect.unit ![0, 0] S256x512.size inb_S256x512_S256x512_0_0).toLoadRect (harg3.unread x3) = x3 :=
    (View.readAt_full _ _ _).trans (harg3.read_unread _)
  have e4 : View.readAt (Elt F) arg4.view (Rect.unit ![0, 0] S256x512.size inb_S256x512_S256x512_0_0).toLoadRect (harg4.unread x4) = x4 :=
    (View.readAt_full _ _ _).trans (harg4.read_unread _)
  have e5 : View.readAt (Elt F) arg5.view (Rect.unit ![0, 0] S1x512.size inb_S1x512_S1x512_0_0).toLoadRect (harg5.unread x5) = x5 :=
    (View.readAt_full _ _ _).trans (harg5.read_unread _)
  have e6 : View.readAt (Elt F) arg6.view (Rect.unit ![0, 0] S512x512.size inb_S512x512_S512x512_0_0).toLoadRect (harg6.unread x6) = x6 :=
    (View.readAt_full _ _ _).trans (harg6.read_unread _)
  have e7 : View.readAt (Elt F) arg7.view (Rect.unit ![0, 0] S512x512.size inb_S512x512_S512x512_0_0).toLoadRect (harg7.unread x7) = x7 :=
    (View.readAt_full _ _ _).trans (harg7.read_unread _)
  have e8 : View.readAt (Elt F) arg8.view (Rect.unit ![0, 0] S1x512.size inb_S1x512_S1x512_0_0).toLoadRect (harg8.unread x8) = x8 :=
    (View.readAt_full _ _ _).trans (harg8.read_unread _)
  have e2 : ∀ B : Rect S1x2048x256, View.readAt (Elt F) arg2.view B.toLoadRect (harg2.unread x2) = View.ld x2 B := fun B => by
    rw [View.readAt_eq_ld, harg2.read_unread]
  have cases : (past (lenAt c i xt) 512#32 ∧ past (lenAt c i xt) 1024#32 ∧ past (lenAt c i xt) 1536#32)
      ∨ (past (lenAt c i xt) 512#32 ∧ past (lenAt c i xt) 1024#32 ∧ ¬ past (lenAt c i xt) 1536#32)
      ∨ (past (lenAt c i xt) 512#32 ∧ ¬ past (lenAt c i xt) 1024#32 ∧ ¬ past (lenAt c i xt) 1536#32)
      ∨ (¬ past (lenAt c i xt) 512#32 ∧ ¬ past (lenAt c i xt) 1024#32 ∧ ¬ past (lenAt c i xt) 1536#32) := by
    simp only [past_iff]
    have e0 : (512#32).toInt = 512 := by decide
    have e1 : (1024#32).toInt = 1024 := by decide
    have e2 : (1536#32).toInt = 1536 := by decide
    rw [e0, e1, e2]; omega
  rcases cases with ⟨h0, h1, h2⟩ | ⟨h0, h1, h2⟩ | ⟨h0, h1, h2⟩ | ⟨h0, h1, h2⟩
  all_goals
    sl_exec (disch := first | sl_exact h0 | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro
      funext y
      refine (read_word _ _ _ (i 0).val ?_ _ _ y).trans ?_
      · exact off_word i
      rw [harg11.read_unread]
      congr 1
      sl_unfold_run_names
      unfold bodyWord
      refine congr (congr (congr (congrArg k0_pay10 rfl) ?_) ((View.readAt_full _ _ _).trans (harg9.read_unread _)))
        ((congrFun (View.readAt_full _ _ _) _).trans ((congrFun (harg10.read_unread _) _).trans (congrArg x10 (first_eq _))))
      refine (View.readAt_full _ _ _).trans ?_
      funext z
      repeat rw [read_row]
      rw [View.read_writes_full]
      repeat rw [e2]
      unfold rowSums
      first | rw [ite_and_true h2] | rw [ite_and_false h2]
      first | rw [ite_and_true h1] | rw [ite_and_false h1]
      first | rw [ite_and_true h0] | rw [ite_and_false h0]
      rfl
    isplitl [H12]
    · iexists _, _; isplitr; swap; · iexact H12
      ipureintro; rfl
    iexact HT

end Cert.KernelIdeal.Own

end
-- ==== Proof.Own.Output.lean ====
/- What the kernel's run leaves in the result: at the end word `b` of the output is the word that the body stores at point `b`.
   The output window is written back once, at the last point, so the proof data hold the output's buffer to a predicate: at point
   `t` the words up to `t` are the ones computed. -/
module

public import proofs.«01_k».proof.Proof.Own.Run
public import Idealize.ShloMosaic.Lib.Pipeline.ValueKit.Geometry
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point's coordinate is its number. -/
theorem coord_val (t : Fin (pipe m).N) : (grid0.coords t 0).val = t.val := by
  have h : t.val < 16 := t.isLt
  rw [Pipeline.Grid.coords_val (G := grid0) t 0 (S := 1) (B := 16) (by decide) rfl]
  omega

/-- The word that the body stores at point `t`, of the blocks that the windows hold there and the table of lengths. -/
def wordAt (c : Dev nD) (t : Fin (pipe m).N) : F .f32 :=
  bodyWord (lenAt c (grid0.coords t) (table m 0)) (blockAt m c 0 t) (blockAt m c 1 t) (blockAt m c 2 t) (blockAt m c 3 t) (blockAt m c 4 t) (blockAt m c 5 t) (blockAt m c 6 t) (blockAt m c 7 t) (blockAt m c 8 t)

/-- The window that the data hold to a predicate: the output. -/
def isOutput : Fin 10 → Bool := fun w => w.val == 9

/-- What the output's buffer meets after the body at point `t`: word `b` is the one computed at point `b`, for each `b` up to `t`. -/
def wordsUpTo (c : Dev nD) (t : Fin (pipe m).N) (X : S16.Idx → F .f32) : Prop :=
  ∀ u : Fin (pipe m).N, u.val ≤ t.val → X (ix1 ⟨u.val, u.isLt⟩) = wordAt m c u

/-- That, as a predicate on each window's buffer: nothing is asked of the others. -/
def held (c : Dev nD) : (w : Fin (pipe m).W) → (t : Fin (pipe m).N) → ((((pipe m).win w).block).Idx → Elt F ((pipe m).win w).elt) → Prop
  | ⟨9, _⟩, t, X => wordsUpTo m c t X
  | _, _, _ => True

/-- The proof data: the arrays as the region finds them, each operand's buffer at its block, the output's not named. -/
def data (c : Dev nD) : Dat τ (Elt F) Unit ℕ (UR sig nD τ) ℕ (pipe m) c where
  A w := atRegion m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, h⟩ => Pipeline.Dat.unnamed (cfg := pipe m) ⟨9, h⟩ t
  Φ _ := iprop(Pipeline.ΦA spec0 c ∗ Pipeline.ΦT pre0 (table m) c)
  q _ := fullShare
  owed _ := 0

/-- The same with the output held to `held`. -/
abbrev relData (c : Dev nD) : Pipeline.RDat τ (Elt F) Unit ℕ (UR sig nD τ) ℕ (pipe m) c :=
  (data m c).toRRel isOutput (held m c)

/-- The data's arrays. -/
theorem data_A (c : Dev nD) (w : Fin (pipe m).W) : (data m c).A w = atRegion m c (Pipeline.arrRef spec0 w) := by
  dsimp only [data]

/-! Operand by operand: the body leaves the block in place, and finds it there at every point. -/

theorem after_0 (c : Dev nD) (t : Fin (pipe m).N) : (data m c).after 0 t = blockAt m c 0 t := by dsimp only [data]; try rfl
theorem after_1 (c : Dev nD) (t : Fin (pipe m).N) : (data m c).after 1 t = blockAt m c 1 t := by dsimp only [data]; try rfl
theorem after_2 (c : Dev nD) (t : Fin (pipe m).N) : (data m c).after 2 t = blockAt m c 2 t := by dsimp only [data]; try rfl
theorem after_3 (c : Dev nD) (t : Fin (pipe m).N) : (data m c).after 3 t = blockAt m c 3 t := by dsimp only [data]; try rfl
theorem after_4 (c : Dev nD) (t : Fin (pipe m).N) : (data m c).after 4 t = blockAt m c 4 t := by dsimp only [data]; try rfl
theorem after_5 (c : Dev nD) (t : Fin (pipe m).N) : (data m c).after 5 t = blockAt m c 5 t := by dsimp only [data]; try rfl
theorem after_6 (c : Dev nD) (t : Fin (pipe m).N) : (data m c).after 6 t = blockAt m c 6 t := by dsimp only [data]; try rfl
theorem after_7 (c : Dev nD) (t : Fin (pipe m).N) : (data m c).after 7 t = blockAt m c 7 t := by dsimp only [data]; try rfl
theorem after_8 (c : Dev nD) (t : Fin (pipe m).N) : (data m c).after 8 t = blockAt m c 8 t := by dsimp only [data]; try rfl
theorem before_0 (c : Dev nD) (t : Fin (pipe m).N) (d) : (data m c).before 0 t d = blockAt m c 0 t :=
  ((data m c).before_in_eq_fetched 0 rfl (fun _ => rfl) (fun _ _ _ => rfl)
    (fun t => by rw [after_0]; unfold Dat.blockOf blockAt; rw [data_A]; try rfl) t d).trans
    (by unfold Dat.fetched Dat.blockOf blockAt; rw [data_A]; try rfl)
theorem before_1 (c : Dev nD) (t : Fin (pipe m).N) (d) : (data m c).before 1 t d = blockAt m c 1 t :=
  ((data m c).before_in_eq_fetched 1 rfl (fun _ => rfl) (fun _ _ _ => rfl)
    (fun t => by rw [after_1]; unfold Dat.blockOf blockAt; rw [data_A]; try rfl) t d).trans
    (by unfold Dat.fetched Dat.blockOf blockAt; rw [data_A]; try rfl)
theorem before_2 (c : Dev nD) (t : Fin (pipe m).N) (d) : (data m c).before 2 t d = blockAt m c 2 t :=
  ((data m c).before_in_eq_fetched 2 rfl (fun _ => rfl) (fun _ _ _ => rfl)
    (fun t => by rw [after_2]; unfold Dat.blockOf blockAt; rw [data_A]; try rfl) t d).trans
    (by unfold Dat.fetched Dat.blockOf blockAt; rw [data_A]; try rfl)
theorem before_3 (c : Dev nD) (t : Fin (pipe m).N) (d) : (data m c).before 3 t d = blockAt m c 3 t :=
  ((data m c).before_in_eq_fetched 3 rfl (fun _ => rfl) (fun _ _ _ => rfl)
    (fun t => by rw [after_3]; unfold Dat.blockOf blockAt; rw [data_A]; try rfl) t d).trans
    (by unfold Dat.fetched Dat.blockOf blockAt; rw [data_A]; try rfl)
theorem before_4 (c : Dev nD) (t : Fin (pipe m).N) (d) : (data m c).before 4 t d = blockAt m c 4 t :=
  ((data m c).before_in_eq_fetched 4 rfl (fun _ => rfl) (fun _ _ _ => rfl)
    (fun t => by rw [after_4]; unfold Dat.blockOf blockAt; rw [data_A]; try rfl) t d).trans
    (by unfold Dat.fetched Dat.blockOf blockAt; rw [data_A]; try rfl)
theorem before_5 (c : Dev nD) (t : Fin (pipe m).N) (d) : (data m c).before 5 t d = blockAt m c 5 t :=
  ((data m c).before_in_eq_fetched 5 rfl (fun _ => rfl) (fun _ _ _ => rfl)
    (fun t => by rw [after_5]; unfold Dat.blockOf blockAt; rw [data_A]; try rfl) t d).trans
    (by unfold Dat.fetched Dat.blockOf blockAt; rw [data_A]; try rfl)
theorem before_6 (c : Dev nD) (t : Fin (pipe m).N) (d) : (data m c).before 6 t d = blockAt m c 6 t :=
  ((data m c).before_in_eq_fetched 6 rfl (fun _ => rfl) (fun _ _ _ => rfl)
    (fun t => by rw [after_6]; unfold Dat.blockOf blockAt; rw [data_A]; try rfl) t d).trans
    (by unfold Dat.fetched Dat.blockOf blockAt; rw [data_A]; try rfl)
theorem before_7 (c : Dev nD) (t : Fin (pipe m).N) (d) : (data m c).before 7 t d = blockAt m c 7 t :=
  ((data m c).before_in_eq_fetched 7 rfl (fun _ => rfl) (fun _ _ _ => rfl)
    (fun t => by rw [after_7]; unfold Dat.blockOf blockAt; rw [data_A]; try rfl) t d).trans
    (by unfold Dat.fetched Dat.blockOf blockAt; rw [data_A]; try rfl)
theorem before_8 (c : Dev nD) (t : Fin (pipe m).N) (d) : (data m c).before 8 t d = blockAt m c 8 t :=
  ((data m c).before_in_eq_fetched 8 rfl (fun _ => rfl) (fun _ _ _ => rfl)
    (fun t => by rw [after_8]; unfold Dat.blockOf blockAt; rw [data_A]; try rfl) t d).trans
    (by unfold Dat.fetched Dat.blockOf blockAt; rw [data_A]; try rfl)

/-- What the output's buffer may hold when the body runs at a point after the first: what `wordsUpTo` says of the point before. -/
theorem found_words (c : Dev nD) (t : Fin (pipe m).N) (ht : t.val ≠ 0) (X : S16.Idx → F .f32)
    (h : (relData m c).Finds 9 t X) : wordsUpTo m c ⟨t.val - 1, Nat.lt_of_le_of_lt (Nat.sub_le _ _) t.isLt⟩ X := by
  have hN : t.val < 16 := t.isLt
  rcases ((relData m c).finds_of_pos (w := 9) (fetch_out m t) ht X).mp h with hf | hl
  · have := (flush_out m _).mp hf
    exact absurd this (by show ¬ ((t.val - 1) % 16 = 15); omega)
  · exact (data m c).toRRel_leaves (w := 9) rfl hl

/-- The body stores word `t` over what it found: then the words up to `t` are the ones computed. -/
theorem words_step (c : Dev nD) (t : Fin (pipe m).N) (X : S16.Idx → F .f32) (h : (relData m c).Finds 9 t X) :
    wordsUpTo m c t (fun y => if (y 0).val = (grid0.coords t 0).val then wordAt m c t else X y) := by
  intro u hu
  show (if u.val = (grid0.coords t 0).val then _ else _) = _
  rw [coord_val]
  split
  · next e => rw [Fin.ext e]
  · next e => exact found_words m c t (by omega) X h u (by show u.val ≤ t.val - 1; omega)

/-- What the body is called with at point `t`, window by window, -/
def bodyPre (c : Dev nD) (t : Fin (pipe m).N) : sProp 𝕄 :=
  iprop((data m c).Φ t.castSucc ∗ (data m c).owesAt () t.castSucc
    ∗ (∃ d, owns (c : Thread nD τ) (spec0_0.stage ((pipe m).slots t 0)) fullShare ((data m c).before 0 t d)) ∗ (∃ d, owns (c : Thread nD τ) (spec0_1.stage ((pipe m).slots t 1)) fullShare ((data m c).before 1 t d)) ∗ (∃ d, owns (c : Thread nD τ) (spec0_2.stage ((pipe m).slots t 2)) fullShare ((data m c).before 2 t d)) ∗ (∃ d, owns (c : Thread nD τ) (spec0_3.stage ((pipe m).slots t 3)) fullShare ((data m c).before 3 t d)) ∗ (∃ d, owns (c : Thread nD τ) (spec0_4.stage ((pipe m).slots t 4)) fullShare ((data m c).before 4 t d)) ∗ (∃ d, owns (c : Thread nD τ) (spec0_5.stage ((pipe m).slots t 5)) fullShare ((data m c).before 5 t d)) ∗ (∃ d, owns (c : Thread nD τ) (spec0_6.stage ((pipe m).slots t 6)) fullShare ((data m c).before 6 t d)) ∗ (∃ d, owns (c : Thread nD τ) (spec0_7.stage ((pipe m).slots t 7)) fullShare ((data m c).before 7 t d)) ∗ (∃ d, owns (c : Thread nD τ) (spec0_8.stage ((pipe m).slots t 8)) fullShare ((data m c).before 8 t d))
    ∗ (∃ Y, ⌜(relData m c).Finds 9 t Y⌝ ∗ owns (c : Thread nD τ) (spec0_9.stage ((pipe m).slots t 9)) fullShare Y))

/-- and what it returns. -/
def bodyPost (c : Dev nD) (t : Fin (pipe m).N) : sProp 𝕄 :=
  iprop((data m c).Φ t.succ ∗ (data m c).owesAt () t.succ
    ∗ owns (c : Thread nD τ) (spec0_0.stage ((pipe m).slots t 0)) fullShare ((data m c).after 0 t) ∗ owns (c : Thread nD τ) (spec0_1.stage ((pipe m).slots t 1)) fullShare ((data m c).after 1 t) ∗ owns (c : Thread nD τ) (spec0_2.stage ((pipe m).slots t 2)) fullShare ((data m c).after 2 t) ∗ owns (c : Thread nD τ) (spec0_3.stage ((pipe m).slots t 3)) fullShare ((data m c).after 3 t) ∗ owns (c : Thread nD τ) (spec0_4.stage ((pipe m).slots t 4)) fullShare ((data m c).after 4 t) ∗ owns (c : Thread nD τ) (spec0_5.stage ((pipe m).slots t 5)) fullShare ((data m c).after 5 t) ∗ owns (c : Thread nD τ) (spec0_6.stage ((pipe m).slots t 6)) fullShare ((data m c).after 6 t) ∗ owns (c : Thread nD τ) (spec0_7.stage ((pipe m).slots t 7)) fullShare ((data m c).after 7 t) ∗ owns (c : Thread nD τ) (spec0_8.stage ((pipe m).slots t 8)) fullShare ((data m c).after 8 t)
    ∗ (∃ X, ⌜held m c 9 t X⌝ ∗ owns (c : Thread nD τ) (spec0_9.stage ((pipe m).slots t 9)) fullShare X))

set_option maxHeartbeats 1600000 in
/-- The body's triple at every point, from `body_run`. -/
theorem body_triple (c : Dev nD) (t : Fin (pipe m).N) :
    bodyPre m c t ⊢ wp frame (wpE (defs₀ (F := F)) Variants.none c none) Set.univ
      (defs₀ (F := F) .tc (pipe m).body ((pipe m).bodyArgs t ((pipe m).slots t))) (fun _ => bodyPost m c t) := by
  rw [body_row]
  unfold bodyPre bodyPost
  simp only [before_0, before_1, before_2, before_3, before_4, before_5, before_6, before_7, before_8]
  rw [show (data m c).Φ t.succ = (data m c).Φ t.castSucc from rfl,
    show (data m c).owesAt () t.succ = (data m c).owesAt () t.castSucc from rfl,
    after_0, after_1, after_2, after_3, after_4, after_5, after_6, after_7, after_8]
  rw [show (data m c).Φ t.castSucc = iprop(Pipeline.ΦA spec0 c ∗ Pipeline.ΦT pre0 (table m) c) from rfl, tables_eq, scratch_eq]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, H9⟩⟩
  iapply (body_run c (grid0.coords t) _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) Y (table m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS]; · iexact HS
  isplitl [HT]; · iexact HT
  iintro ⟨H0, H1, H2, H3, H4, H5, H6, H7, H8, H9, HS, HT⟩
  isplitl [HS Hg HT]
  · isplitl [HS Hg]
    · isplitl [HS]
      · iexact HS
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists (fun y : S16.Idx => if (y 0).val = (grid0.coords t 0).val then wordAt m c t else Y y)
  isplitr
  · ipureintro; exact words_step m c t Y hY
  iexact H9

/-- The body obligation of the data with the output held to the predicate. -/
theorem body_obligation (c : Dev nD) :
    Pipeline.BodyObligationRel (data m c) (defs₀ (F := F)) Variants.none () Set.univ isOutput (held m c) := fun t => by
  rw [bigSep_W0, bigSep_W0]
  exact triple_restated (body_triple m c t) rfl .rfl fun _ => .rfl

set_option backward.isDefEq.respectTransparency.types false in
/-- The launch: every execution of @main ends with the region's post of the data, and every counter at zero. -/
theorem run_main : θ_run defs (onTc (τ := τ) (main (F := F))) (s₀ m ρ)
    (fun r => Pipeline.RDat.FramePost ((Pipeline.pin pcfgs fun _ => admTable m) 0) (relData m) (atRegion m) r ∧ r.2.sem = fun _ => 0) :=
  Pipeline.RDat.θ_run_frameP (Q' := _) pcfgs (fun _ => admTable m) (0 : Fin 1) launch0 defs₀ Variants.none (relData m) m ρ main
    (hbody := fun c => (body_obligation m c).toRRel) (hshare := fun c => (data m c).share_full fun _ => rfl)
    (howed := fun _ _ => rfl) (V := atRegion m) (hmain := main_shape m Variants.none) (hA := data_A m) (hpf := table_eq m) (hΦ := fun _ _ => rfl)

/-- The last point writes the output back whole, and no other point writes it back. -/
theorem whole_out : ((pipe m).win 9).WholeAt (⟨15, by decide⟩ : Fin grid0.N) := by
  refine ⟨(flush_out m _).mpr rfl, fun t ht => Fin.ext ?_, ?_⟩
  · have h := (flush_out m t).mp ht
    have hN : t.val < 16 := t.isLt
    show t.val = 15
    omega
  · exact Fin.forall_fin_one.mpr ⟨rfl, rfl⟩

/-- The result's words at the end of the run. -/
theorem result_words {r : PUnit × MemSt nD τ sig (Elt F)}
    (h : Pipeline.RDat.FramePost ((Pipeline.pin pcfgs fun _ => admTable m) 0) (relData m) (atRegion m) r) (c : Dev nD)
    (u : Fin (pipe m).N) : r.2.mem ((c.tc : Thread nD τ).loc main_v10) (ix1 ⟨u.val, u.isLt⟩) = wordAt m c u := by
  obtain ⟨X, hX, hr⟩ := ((h c).1 9).emb_eq_of_wholeAt (whole_out m)
  have hw : wordsUpTo m c (⟨15, by decide⟩ : Fin grid0.N) X := (data m c).toRRel_leaves (w := 9) rfl hX
  have hN : u.val < 16 := u.isLt
  exact (hr (ix1 ⟨u.val, u.isLt⟩)).trans (hw u (by show u.val ≤ 15; omega))

end Cert.KernelIdeal.Own

end
-- ==== Proof.Own.Maths.lean ====
/- The equation between the two ways of adding up one batch entry, over the extended reals: the kernel sums the features of the
   rows first, then takes one product with the last layer's weights and adds the last bias once per row; the reference applies the
   last layer row by row and multiplies by the mask. -/
module

public import Idealize.ShloMosaic.Lib.Pointwise
public import Idealize.ShloMosaic.Lib.WordCmp
public import Idealize.ShloMosaic.Lib.Affine

@[expose] public section

noncomputable section

namespace Cert.KernelIdeal.Own

open Idealize.ShloMosaic

/-- The choice on "row `n` is before the length `v`", the row's number a word. -/
theorem select_before (n : ℕ) (h : n < 2147483648) (v : BitVec 32) (a b : EReal) :
    (Scalar.select (IntOp.cmpi .slt (BitVec.ofNat 32 n) v) a b : EReal) = if (n : ℤ) < v.toInt then a else b := by
  show (if IntOp.cmpi .slt (BitVec.ofNat 32 n) v = 1#1 then a else b) = _
  simp only [IntOp.cmpi_slt, WordCmp.toInt_ofNat_of_lt (w := 32) h]

/-- One dense layer with a rectifier: `max(x·W + b, 0)` at output `j`. -/
def layer {n k : ℕ} (x : Fin n → EReal) (W : Fin n → Fin k → EReal) (b : Fin k → EReal) (j : Fin k) : EReal :=
  max (∑ i, x i * W i j + b j) 0

/-- A layer's outputs are not negative. -/
theorem layer_nonneg {n k : ℕ} (x : Fin n → EReal) (W : Fin n → Fin k → EReal) (b : Fin k → EReal) (j : Fin k) :
    0 ≤ layer x W b j := le_max_right _ _

/-- A number whose absolute value is below infinity, less itself, is zero. -/
theorem sub_self_of_abs_lt {w : EReal} (h : max w (-w) < ⊤) : w - w = 0 := by
  induction w using EReal.rec with
  | bot => simp at h
  | top => simp at h
  | coe r => rw [← EReal.coe_sub, sub_self, EReal.coe_zero]

/-- A layer whose weights come in two parts, the second of them zero, is the layer with the first part. -/
theorem layer_split {n k : ℕ} (x : Fin n → EReal) (W L : Fin n → Fin k → EReal) (hL : ∀ i j, L i j = 0) (b : Fin k → EReal)
    (j : Fin k) : max (∑ i, x i * W i j + ∑ i, x i * L i j + b j) 0 = layer x W b j := by
  unfold layer
  simp only [hL, mul_zero, Finset.sum_const_zero, add_zero]

/-- A sum of numbers that are not negative, times `w`, is the sum of the products. -/
theorem sum_mul_of_nonneg {ι : Type} (s : Finset ι) (g : ι → EReal) (hg : ∀ i, 0 ≤ g i) (w : EReal) :
    (∑ i ∈ s, g i) * w = ∑ i ∈ s, g i * w := by
  classical
  induction s using Finset.induction_on with
  | empty => simp
  | insert a s ha ih =>
    rw [Finset.sum_insert ha, Finset.sum_insert ha,
      EReal.right_distrib_of_nonneg (hg a) (Finset.sum_nonneg fun i _ => hg i), ih]

/-- A number added once for each of the first `n` of `N` rows is the number times `n`. -/
theorem sum_first {N : ℕ} (n : ℕ) (hn : n ≤ N) (b : EReal) :
    (∑ R : Fin N, if R.val < n then b else 0) = b * ((n : ℝ) : EReal) := by
  rw [← Finset.sum_filter, Finset.sum_const]
  have hc : (Finset.univ.filter fun R : Fin N => R.val < n).card = n := by
    rw [Fin.card_filter_val_lt, Nat.min_eq_right hn]
  rw [hc, EReal.nsmul_eq_mul, mul_comm]
  rfl

/-- A sum over 2048 rows is the sum over four stretches of 512. -/
theorem sum_stretches (f : ℕ → EReal) :
    (∑ s : Fin 4, ∑ r : Fin 512, f (512 * s.val + r.val)) = ∑ R : Fin 2048, f R.val := by
  rw [← Fintype.sum_prod_type']
  exact Fintype.sum_equiv (finProdFinEquiv (m := 4) (n := 512)) _ (fun R : Fin 2048 => f R.val)
    fun p => congrArg f (by show _ = p.2.val + 512 * p.1.val; omega)

/-- The equation: `g R j` are the features of row `R`, none negative; `w` and `b` the last layer; the first `n` rows count. -/
theorem entry_eq (n : ℕ) (hn : n ≤ 2048) (g : ℕ → Fin 512 → EReal) (hg : ∀ R j, 0 ≤ g R j) (w : Fin 512 → EReal) (b : EReal) :
    (∑ j : Fin 512, (∑ s : Fin 4, ∑ r : Fin 512, if 512 * s.val + r.val < n then g (512 * s.val + r.val) j else 0) * w j)
        + b * ((n : ℝ) : EReal)
      = ∑ R : Fin 2048, (∑ j : Fin 512, g R.val j * w j + b) * (if R.val < n then 1 else 0) := by
  rw [← sum_first n hn b]
  have h : ∀ j : Fin 512, (∑ s : Fin 4, ∑ r : Fin 512, if 512 * s.val + r.val < n then g (512 * s.val + r.val) j else 0) * w j
      = ∑ R : Fin 2048, (if R.val < n then g R.val j else 0) * w j := fun j => by
    rw [sum_stretches fun R => if R < n then g R j else 0]
    exact sum_mul_of_nonneg _ _ (fun R => by split; exacts [hg _ _, le_refl _]) _
  rw [Finset.sum_congr rfl fun j _ => h j, Finset.sum_comm, ← Finset.sum_add_distrib]
  refine Finset.sum_congr rfl fun R _ => ?_
  by_cases hR : R.val < n
  · simp only [hR, if_true, mul_one]
  · simp only [hR, if_false, zero_mul, mul_zero, Finset.sum_const_zero, add_zero]

end Cert.KernelIdeal.Own

end
-- ==== Proof.Own.KernelValue.lean ====
/- The body's word at the ideal instance, as scalar mathematics: the masked sums of the stretches, and the word. -/
module

public import proofs.«01_k».proof.Proof.Own.Run
public import proofs.«01_k».proof.Proof.Own.Maths
public import Idealize.ShloMosaic.Lib.Pointwise
public import Idealize.ShloMosaic.Lib.WordCmp

@[expose] public section

set_option maxRecDepth 16384

noncomputable section

namespace Cert.KernelIdeal.Own

open Idealize.ShloMosaic
open Cert.KernelIdeal.Gen

/-- A row's mask: the choice on "row `r` of the stretch that starts at `S` is before the length `v`". -/
theorem select_row (S r : ℕ) (h : S + r < 2147483648) (v : BitVec 32) (a b : EReal) :
    (Scalar.select (IntOp.cmpi .slt (IntOp.addi (BitVec.ofNat 32 r) (BitVec.ofNat 32 S)) v) a b : EReal)
      = if ((S + r : ℕ) : ℤ) < v.toInt then a else b := by
  have e : IntOp.addi (BitVec.ofNat 32 r) (BitVec.ofNat 32 S) = BitVec.ofNat 32 (S + r) := by
    show BitVec.ofNat 32 r + BitVec.ofNat 32 S = _
    rw [← BitVec.ofNat_add, Nat.add_comm]
  rw [e]
  exact select_before (S + r) h v a b

/-- The features of one row: two layers, each with its weights in two parts. -/
def features (x : Fin 256 → EReal) (Wh Wl : Vec Ideal S256x512 .f32) (b : Vec Ideal S1x512 .f32) (Vh Vl : Vec Ideal S512x512 .f32)
    (d : Vec Ideal S1x512 .f32) (j : Fin 512) : EReal :=
  max ((∑ k : Fin 512, (max (((∑ i : Fin 256, x i * (Wh (ix2 i k) : EReal)) + ∑ i : Fin 256, x i * (Wl (ix2 i k) : EReal)) + (b (ix2 0 k) : EReal)) 0) * (Vh (ix2 k j) : EReal))
      + (∑ k : Fin 512, (max (((∑ i : Fin 256, x i * (Wh (ix2 i k) : EReal)) + ∑ i : Fin 256, x i * (Wl (ix2 i k) : EReal)) + (b (ix2 0 k) : EReal)) 0) * (Vl (ix2 k j) : EReal))
      + (d (ix2 0 j) : EReal)) 0

/-- With the second parts zero, the features are two plain layers of the first parts. -/
theorem features_eq (x : Fin 256 → EReal) (Wh Wl : Vec Ideal S256x512 .f32) (b : Vec Ideal S1x512 .f32)
    (Vh Vl : Vec Ideal S512x512 .f32) (d : Vec Ideal S1x512 .f32) (W : Fin 256 → Fin 512 → EReal) (β : Fin 512 → EReal)
    (V : Fin 512 → Fin 512 → EReal) (δ : Fin 512 → EReal) (hW : ∀ i k, (Wh (ix2 i k) : EReal) = W i k)
    (hWl : ∀ i k, (Wl (ix2 i k) : EReal) = 0) (hb : ∀ k, (b (ix2 0 k) : EReal) = β k) (hV : ∀ k j, (Vh (ix2 k j) : EReal) = V k j)
    (hVl : ∀ k j, (Vl (ix2 k j) : EReal) = 0) (hd : ∀ j, (d (ix2 0 j) : EReal) = δ j) (j : Fin 512) :
    features x Wh Wl b Vh Vl d j = layer (layer x W β) V δ j := by
  unfold features
  simp only [hW, hWl, hb, hV, hVl, hd]
  have inner : ∀ k : Fin 512, _ = layer x W β k := fun k => layer_split x W (fun _ _ => 0) (fun _ _ => rfl) β k
  simp only [inner]
  exact layer_split _ V (fun _ _ => 0) (fun _ _ => rfl) δ j

/-- Row `R` of a block of rows (zero past its end). -/
def rowOf (X : Vec Ideal S1x2048x256 .f32) (R : ℕ) : Fin 256 → EReal := fun i =>
  if h : R < 2048 then (X (ix3 0 ⟨R, h⟩ i) : EReal) else 0

variable (v : BitVec 32) (X : Vec Ideal S1x2048x256 .f32) (Wh Wl : Vec Ideal S256x512 .f32) (b : Vec Ideal S1x512 .f32)
  (Vh Vl : Vec Ideal S512x512 .f32) (d : Vec Ideal S1x512 .f32)

/-- The features of the rows of the stretch that starts at row `S`, added up over the rows before the length. -/
def maskedSum (S : ℕ) (j : Fin 512) : EReal :=
  ∑ r : Fin 512, if ((S + r.val : ℕ) : ℤ) < v.toInt then features (rowOf X (S + r.val)) Wh Wl b Vh Vl d j else 0

/-- A stretch past the length adds nothing up. -/
theorem maskedSum_zero (S : ℕ) (h : v.toInt ≤ (S : ℤ)) (j : Fin 512) : maskedSum v X Wh Wl b Vh Vl d S j = 0 :=
  Finset.sum_eq_zero fun r _ => if_neg (by push_cast; omega)

/-- One term of a stretch's sum, as the body computes it. -/
theorem masked_term (S : ℕ) (hS : S ≤ 1536) (r : Fin 512) (R : ℕ) (hR : R < 2048) (e : R = S + r.val) (j : Fin 512) :
    (Scalar.select (IntOp.cmpi .slt (IntOp.addi (BitVec.ofNat 32 r.val) (BitVec.ofNat 32 S)) v)
        (features (fun i => X (ix3 0 ⟨R, hR⟩ i)) Wh Wl b Vh Vl d j) 0 : EReal)
      = if ((S + r.val : ℕ) : ℤ) < v.toInt then features (rowOf X (S + r.val)) Wh Wl b Vh Vl d j else 0 := by
  subst e
  rw [select_row S r.val (by omega)]
  have h : rowOf X (S + r.val) = fun i => (X (ix3 0 ⟨S + r.val, hR⟩ i) : EReal) := funext fun i => dif_pos hR
  rw [h]

/-- The sum over rows 0 to 511, at an output. -/
theorem stretch0_at (j : Fin 512) : (stretch0 v X Wh Wl b Vh Vl d (ix2 0 j) : EReal) = maskedSum v X Wh Wl b Vh Vl d 0 j := by
  pointwise [stretch0, k0_pay6, k0_pay5]
  exact Finset.sum_congr rfl fun r _ => masked_term v X Wh Wl b Vh Vl d 0 (by omega) r _ (by omega) (by omega) j

/-- The sum over rows 512 to 1023, at an output. -/
theorem stretch1_at (j : Fin 512) : (stretch1 v X Wh Wl b Vh Vl d (ix2 0 j) : EReal) = maskedSum v X Wh Wl b Vh Vl d 512 j := by
  pointwise [stretch1, k0_pay7, k0_pay1]
  exact Finset.sum_congr rfl fun r _ => masked_term v X Wh Wl b Vh Vl d 512 (by omega) r _ (by omega) (by omega) j

/-- The sum over rows 1024 to 1535, at an output. -/
theorem stretch2_at (j : Fin 512) : (stretch2 v X Wh Wl b Vh Vl d (ix2 0 j) : EReal) = maskedSum v X Wh Wl b Vh Vl d 1024 j := by
  pointwise [stretch2, k0_pay8, k0_pay2]
  exact Finset.sum_congr rfl fun r _ => masked_term v X Wh Wl b Vh Vl d 1024 (by omega) r _ (by omega) (by omega) j

/-- The sum over rows 1536 to 2047, at an output. -/
theorem stretch3_at (j : Fin 512) : (stretch3 v X Wh Wl b Vh Vl d (ix2 0 j) : EReal) = maskedSum v X Wh Wl b Vh Vl d 1536 j := by
  pointwise [stretch3, k0_pay9, k0_pay3]
  exact Finset.sum_congr rfl fun r _ => masked_term v X Wh Wl b Vh Vl d 1536 (by omega) r _ (by omega) (by omega) j

/-- The four scratch rows: each holds its stretch's masked sum, whether the stretch ran or was skipped. -/
theorem rowSums_at (s : Fin 4) (j : Fin 512) :
    (rowSums v X Wh Wl b Vh Vl d (ix2 s j) : EReal) = maskedSum v X Wh Wl b Vh Vl d (512 * s.val) j := by
  have skipped (S : ℕ) (n : BitVec 32) (e : n.toInt = (S : ℤ)) (h : ¬ past v n) (y : S4x512.Idx) :
      (k0_pay4 (F := Ideal) y : EReal) = maskedSum v X Wh Wl b Vh Vl d S j := by
    rw [maskedSum_zero v X Wh Wl b Vh Vl d S (by rw [past_iff] at h; omega)]
    pointwise [k0_pay4]
  show (if s.val = 3 ∧ past v 1536#32 then stretch3 v X Wh Wl b Vh Vl d (ix2 0 j)
    else if s.val = 2 ∧ past v 1024#32 then stretch2 v X Wh Wl b Vh Vl d (ix2 0 j)
    else if s.val = 1 ∧ past v 512#32 then stretch1 v X Wh Wl b Vh Vl d (ix2 0 j)
    else if s.val = 0 then stretch0 v X Wh Wl b Vh Vl d (ix2 0 j) else k0_pay4 (F := Ideal) (ix2 s j)) = _
  match s with
  | 0 =>
    rw [if_neg (by rintro ⟨h, -⟩; exact absurd h (by decide)), if_neg (by rintro ⟨h, -⟩; exact absurd h (by decide)),
      if_neg (by rintro ⟨h, -⟩; exact absurd h (by decide)), if_pos (show ((0 : Fin 4) : ℕ) = 0 from rfl)]
    exact stretch0_at v X Wh Wl b Vh Vl d j
  | 1 =>
    rw [if_neg (by rintro ⟨h, -⟩; exact absurd h (by decide)), if_neg (by rintro ⟨h, -⟩; exact absurd h (by decide))]
    by_cases h : past v 512#32
    · rw [if_pos ⟨rfl, h⟩]; exact stretch1_at v X Wh Wl b Vh Vl d j
    · rw [if_neg fun c => h c.2, if_neg (by decide)]; exact skipped 512 512#32 (by decide) h _
  | 2 =>
    rw [if_neg (by rintro ⟨h, -⟩; exact absurd h (by decide))]
    by_cases h : past v 1024#32
    · rw [if_pos ⟨rfl, h⟩]; exact stretch2_at v X Wh Wl b Vh Vl d j
    · rw [if_neg fun c => h c.2, if_neg (by rintro ⟨h, -⟩; exact absurd h (by decide)), if_neg (by decide)]
      exact skipped 1024 1024#32 (by decide) h _
  | 3 =>
    by_cases h : past v 1536#32
    · rw [if_pos ⟨rfl, h⟩]; exact stretch3_at v X Wh Wl b Vh Vl d j
    · rw [if_neg fun c => h c.2, if_neg (by rintro ⟨h, -⟩; exact absurd h (by decide)),
        if_neg (by rintro ⟨h, -⟩; exact absurd h (by decide)), if_neg (by decide)]
      exact skipped 1536 1536#32 (by decide) h _

/-- The word: the masked sums of the four stretches, dotted with the last layer's weights, plus the last bias times the length. -/
theorem bodyWord_at (w : Vec Ideal S1x512 .f32) (B : Vec Ideal S1x1 .f32) :
    (bodyWord v X Wh Wl b Vh Vl d w B : EReal)
      = (∑ j : Fin 512, (∑ s : Fin 4, maskedSum v X Wh Wl b Vh Vl d (512 * s.val) j) * (w (ix2 0 j) : EReal))
        + (B (ix2 0 0) : EReal) * ((v.toInt : ℝ) : EReal) := by
  pointwise [bodyWord, k0_pay10]
  rw [Fin.sum_univ_one]
  simp only [rowSums_at]

end Cert.KernelIdeal.Own

end
-- ==== Proof.Own.Blocks.lean ====
/- What the kernel's windows hold at the ideal instance, as elements of the arguments, and the word of a batch entry in them. -/
module

public import proofs.«01_k».proof.Proof.Own.Output
public import proofs.«01_k».proof.Proof.Own.KernelValue
public import Idealize.ShloMosaic.Lib.StableHlo.ReadAt

@[expose] public section

set_option maxRecDepth 16384

noncomputable section

namespace Cert.KernelIdeal.Own

open Idealize.ShloMosaic Idealize.ShloMosaic.TcCoe
open Idealize.ShloMosaic.Pipeline (Window)
open Cert.KernelIdeal.Gen

variable (m : (ℓ : Loc nD τ sig) → Buf (Elt Ideal) ℓ) (c : Dev nD)

/-! ## The arguments -/

/-- The first layer's weights. -/
def weight1 (i : Fin 256) (k : Fin 512) : EReal := m ((c.tc : Thread nD τ).loc main_arg3) (ix2 i k)

/-- The first layer's biases. -/
def bias1 (k : Fin 512) : EReal := m ((c.tc : Thread nD τ).loc main_arg4) (ix1 k)

/-- The second layer's weights. -/
def weight2 (k j : Fin 512) : EReal := m ((c.tc : Thread nD τ).loc main_arg5) (ix2 k j)

/-- The second layer's biases. -/
def bias2 (j : Fin 512) : EReal := m ((c.tc : Thread nD τ).loc main_arg6) (ix1 j)

/-- The last layer's weights. -/
def weight3 (j : Fin 512) : EReal := m ((c.tc : Thread nD τ).loc main_arg7) (ix2 j 0)

/-- The last layer's bias. -/
def bias3 : EReal := m ((c.tc : Thread nD τ).loc main_arg8) (ix1 0)

/-- The length of batch entry `t`. -/
def len (t : Fin 16) : BitVec 32 := m ((c.tc : Thread nD τ).loc main_arg2) (ix1 t)

/-- Row `R` of batch entry `t` (zero past its end). -/
def row (t : Fin 16) (R : ℕ) : Fin 256 → EReal := fun i =>
  if h : R < 2048 then (m ((c.tc : Thread nD τ).loc main_arg0) (ix3 t ⟨R, h⟩ i) : EReal) else 0

/-- The features of a row: the first two layers. -/
def feature (t : Fin 16) (R : ℕ) (j : Fin 512) : EReal :=
  layer (layer (row m c t R) (weight1 m c) (bias1 m c)) (weight2 m c) (bias2 m c) j

/-- The batch entry of grid point `t`. -/
def entryOf (t : Fin (pipe m).N) : Fin 16 := ⟨t.val, t.isLt⟩

/-! ## The arrays that the host operations make -/

/-- The first part of the first weights is the weights: rounding is the identity here. -/
theorem high1_at (i : Fin 256) (k : Fin 512) : (atRegion m c main_v1 (ix2 i k) : EReal) = weight1 m c i k := by
  unfold weight1
  after_reads_at

/-- The second part is the weights less the first part. -/
theorem low1_at (i : Fin 256) (k : Fin 512) : (atRegion m c main_v2 (ix2 i k) : EReal) = weight1 m c i k - weight1 m c i k := by
  show _ = (_ : EReal) - _
  unfold weight1
  after_reads_at

/-- The first biases, as one row. -/
theorem bias1_at (k : Fin 512) : (atRegion m c main_v6 (ix2 0 k) : EReal) = bias1 m c k := by
  unfold bias1
  after_reads_at

/-- The first part of the second weights. -/
theorem high2_at (k j : Fin 512) : (atRegion m c main_v4 (ix2 k j) : EReal) = weight2 m c k j := by
  unfold weight2
  after_reads_at

/-- Their second part. -/
theorem low2_at (k j : Fin 512) : (atRegion m c main_v5 (ix2 k j) : EReal) = weight2 m c k j - weight2 m c k j := by
  show _ = (_ : EReal) - _
  unfold weight2
  after_reads_at

/-- The second biases, as one row. -/
theorem bias2_at (j : Fin 512) : (atRegion m c main_v7 (ix2 0 j) : EReal) = bias2 m c j := by
  unfold bias2
  after_reads_at

/-- The last weights, as one row. -/
theorem weight3_at (j : Fin 512) : (atRegion m c main_v8 (ix2 0 j) : EReal) = weight3 m c j := by
  unfold weight3
  after_reads_at

/-- The last bias, as a one by one array. -/
theorem bias3_at  : (atRegion m c main_v9 (ix2 0 0) : EReal) = bias3 m c := by
  unfold bias3
  after_reads_at

/-! ## The blocks -/

/-- Window 1 stages its whole array at every point. -/
theorem block1 (t : Fin (pipe m).N) : blockAt m c 1 t = atRegion m c main_v1 :=
  funext fun y => congrArg (atRegion m c main_v1) (funext fun a => Fin.ext
    (Window.rect_emb_val_of_index_zero ((pipe m).win 1) t a (by revert a; exact Fin.forall_fin_two.mpr ⟨rfl, rfl⟩) y))

/-- Window 2 stages its whole array at every point. -/
theorem block2 (t : Fin (pipe m).N) : blockAt m c 2 t = atRegion m c main_v2 :=
  funext fun y => congrArg (atRegion m c main_v2) (funext fun a => Fin.ext
    (Window.rect_emb_val_of_index_zero ((pipe m).win 2) t a (by revert a; exact Fin.forall_fin_two.mpr ⟨rfl, rfl⟩) y))

/-- Window 3 stages its whole array at every point. -/
theorem block3 (t : Fin (pipe m).N) : blockAt m c 3 t = atRegion m c main_v6 :=
  funext fun y => congrArg (atRegion m c main_v6) (funext fun a => Fin.ext
    (Window.rect_emb_val_of_index_zero ((pipe m).win 3) t a (by revert a; exact Fin.forall_fin_two.mpr ⟨rfl, rfl⟩) y))

/-- Window 4 stages its whole array at every point. -/
theorem block4 (t : Fin (pipe m).N) : blockAt m c 4 t = atRegion m c main_v4 :=
  funext fun y => congrArg (atRegion m c main_v4) (funext fun a => Fin.ext
    (Window.rect_emb_val_of_index_zero ((pipe m).win 4) t a (by revert a; exact Fin.forall_fin_two.mpr ⟨rfl, rfl⟩) y))

/-- Window 5 stages its whole array at every point. -/
theorem block5 (t : Fin (pipe m).N) : blockAt m c 5 t = atRegion m c main_v5 :=
  funext fun y => congrArg (atRegion m c main_v5) (funext fun a => Fin.ext
    (Window.rect_emb_val_of_index_zero ((pipe m).win 5) t a (by revert a; exact Fin.forall_fin_two.mpr ⟨rfl, rfl⟩) y))

/-- Window 6 stages its whole array at every point. -/
theorem block6 (t : Fin (pipe m).N) : blockAt m c 6 t = atRegion m c main_v7 :=
  funext fun y => congrArg (atRegion m c main_v7) (funext fun a => Fin.ext
    (Window.rect_emb_val_of_index_zero ((pipe m).win 6) t a (by revert a; exact Fin.forall_fin_two.mpr ⟨rfl, rfl⟩) y))

/-- Window 7 stages its whole array at every point. -/
theorem block7 (t : Fin (pipe m).N) : blockAt m c 7 t = atRegion m c main_v8 :=
  funext fun y => congrArg (atRegion m c main_v8) (funext fun a => Fin.ext
    (Window.rect_emb_val_of_index_zero ((pipe m).win 7) t a (by revert a; exact Fin.forall_fin_two.mpr ⟨rfl, rfl⟩) y))

/-- Window 8 stages its whole array at every point. -/
theorem block8 (t : Fin (pipe m).N) : blockAt m c 8 t = atRegion m c main_v9 :=
  funext fun y => congrArg (atRegion m c main_v9) (funext fun a => Fin.ext
    (Window.rect_emb_val_of_index_zero ((pipe m).win 8) t a (by revert a; exact Fin.forall_fin_two.mpr ⟨rfl, rfl⟩) y))

/-- Window 0 stages, at point `t`, the rows of batch entry `t`. -/
theorem block0 (t : Fin (pipe m).N) (R : ℕ) : rowOf (blockAt m c 0 t) R = row m c (entryOf m t) R := by
  have at_index (r : Fin 2048) (i : Fin 256) :
      blockAt m c 0 t (ix3 0 r i) = atRegion m c main_arg0 (ix3 (entryOf m t) r i) := by
    have h : ∀ a, ((((pipe m).win 0).rect t).emb (ix3 0 r i) a).val = (ix3 (n0 := 16) (entryOf m t) r i a).val := by
      refine fun a => (Window.rect_emb_val_off ((pipe m).win 0) t _ a).trans ?_
      match a with
      | ⟨0, _⟩ =>
        show (BitVec.ofNat 32 (grid0.coords t 0).val).toNat * 1 + 0 = t.val
        rw [coord_val, WordCmp.toNat_ofNat_of_lt (by have h : t.val < 16 := t.isLt; omega)]; omega
      | ⟨1, _⟩ => show 0 * 2048 + r.val = r.val; omega
      | ⟨2, _⟩ => show 0 * 256 + i.val = i.val; omega
      | ⟨n + 3, h⟩ => exact absurd h (Nat.not_lt.mpr (Nat.le_add_left 3 n))
    exact congrArg (atRegion m c main_arg0) (funext fun a => Fin.ext (h a))
  funext i
  by_cases hR : R < 2048
  · have h0 : rowOf (blockAt m c 0 t) R i = (blockAt m c 0 t (ix3 0 ⟨R, hR⟩ i) : EReal) := dif_pos hR
    rw [h0, row, dif_pos hR]
    exact (at_index ⟨R, hR⟩ i).trans (congrFun (atRegion_of_ne m c main_arg0 (by decide)) _)
  · have h0 : rowOf (blockAt m c 0 t) R i = 0 := dif_neg hR
    rw [h0, row, dif_neg hR]

/-- The length that the body reads at point `t` is that of batch entry `t`. -/
theorem lenAt_eq (t : Fin (pipe m).N) : lenAt c (grid0.coords t) (table m 0) = len m c (entryOf m t) := by
  have hv : lens.view.emb ((Rect.unit (s := S16) (k0_off1 (grid0.coords t)) S1.size (k0_off1_inb _)).idx (Shape.Idx.first (numel1_S1.symm ▸ Nat.one_pos)))
      = ix1 (n0 := 16) (entryOf m t) := by
    funext a
    obtain rfl : a = 0 := Subsingleton.elim (α := Fin 1) _ _
    apply Fin.ext
    show k0_off2 (grid0.coords t) 0 + 1 * 0 = t.val
    rw [off_word]
    exact coord_val m t
  refine (congrArg (table m 0) hv).trans ?_
  obtain rfl : c = 0 := Subsingleton.elim _ _
  exact congrFun (atRegion_of_ne m 0 main_arg2 (by decide)) _

/-! ## The word -/

/-- With finite weights in the first two layers, the word of batch entry `t`: the features of the rows before the length added
    up, dotted with the last weights, plus the last bias times the length. -/
theorem wordAt_eq (h1 : ∀ i k, weight1 m c i k - weight1 m c i k = 0) (h2 : ∀ k j, weight2 m c k j - weight2 m c k j = 0)
    (t : Fin (pipe m).N) :
    (wordAt m c t : EReal)
      = (∑ j : Fin 512, (∑ s : Fin 4, ∑ r : Fin 512,
            if ((512 * s.val + r.val : ℕ) : ℤ) < (len m c (entryOf m t)).toInt
              then feature m c (entryOf m t) (512 * s.val + r.val) j else 0) * weight3 m c j)
        + bias3 m c * (((len m c (entryOf m t)).toInt : ℝ) : EReal) := by
  have hf (R : ℕ) (j : Fin 512) :
      features (row m c (entryOf m t) R) (atRegion m c main_v1) (atRegion m c main_v2) (atRegion m c main_v6)
        (atRegion m c main_v4) (atRegion m c main_v5) (atRegion m c main_v7) j = feature m c (entryOf m t) R j := by
    exact features_eq _ _ _ _ _ _ _ _ _ _ _ (high1_at m c) (fun i k => (low1_at m c i k).trans (h1 i k)) (bias1_at m c)
      (high2_at m c) (fun k j => (low2_at m c k j).trans (h2 k j)) (bias2_at m c) j
  refine (bodyWord_at _ _ _ _ _ _ _ _ _ _).trans ?_
  have hs (S : ℕ) (j : Fin 512) :
      maskedSum (lenAt c (grid0.coords t) (table m 0)) (blockAt m c 0 t) (blockAt m c 1 t) (blockAt m c 2 t) (blockAt m c 3 t)
          (blockAt m c 4 t) (blockAt m c 5 t) (blockAt m c 6 t) S j
        = ∑ r : Fin 512, if ((S + r.val : ℕ) : ℤ) < (len m c (entryOf m t)).toInt then feature m c (entryOf m t) (S + r.val) j else 0 := by
    unfold maskedSum
    rw [lenAt_eq, block1, block2, block3, block4, block5, block6]
    exact Finset.sum_congr rfl fun r _ => by rw [block0, hf]
  refine congrArg₂ (· + ·) (Finset.sum_congr rfl fun j _ => congrArg₂ (· * ·) (Finset.sum_congr rfl fun s _ => hs _ j) ?_)
    (congrArg₂ (· * ·) ?_ ?_)
  · rw [block7]; exact weight3_at m c j
  · rw [block8]; exact bias3_at m c
  · rw [lenAt_eq]

end Cert.KernelIdeal.Own

end
-- ==== Proof.Own.Precondition.lean ====
/- What the precondition says of the arguments, element by element. -/
module

public import proofs.«01_k».proof.Proof.Gen.Pre_padded_batch
public import proofs.«01_k».proof.Proof.Own.Maths
public import Idealize.ShloMosaic.Lib.ReduceAll
public import Idealize.ShloMosaic.Lib.WordCmp
public import Idealize.ShloMosaic.Lib.Pointwise

@[expose] public section

set_option maxRecDepth 16384

noncomputable section

namespace Cert.Pre_padded_batch.Own

open Idealize.ShloMosaic
open Cert.Pre_padded_batch Cert.Pre_padded_batch.Gen

/-- Two results of one index compared: an `and` that is 1 had 1 on both sides. -/
theorem andi_split (x y : IVec S_ 1) (h : andi x y ix0 = 1#1) : x ix0 = 1#1 ∧ y ix0 = 1#1 := IntOp.andi_eq_one.mp h

/-- A decided bit that is 1 says that what it decides holds. -/
theorem of_ofBool {p : Prop} [Decidable p] (h : BitVec.ofBool (decide p) = 1#1) : p := by
  by_contra hp
  rw [decide_eq_false hp] at h
  exact absurd h (by decide)

/-- An absolute value that compares below the largest word, infinity, is below infinity. -/
theorem abs_lt (w : EReal) (h : BitVec.ofBool (decide (max w (-w) < Ideal.ofBits .f32 0x7F800000#32)) = 1#1) :
    max w (-w) < ⊤ := by
  have htop : Ideal.ofBits .f32 0x7F800000#32 = ⊤ := by simp [Ideal.ofBits, Ideal.ieee]
  rw [htop] at h
  exact of_ofBool h

variable (x0 : FVec Ideal S16x2048x256 .f32) (x1 : FVec Ideal S16x2048x1 .f32) (x2 : IVec S16 32)
  (x3 : FVec Ideal S256x512 .f32) (x4 : FVec Ideal S512 .f32) (x5 : FVec Ideal S512x512 .f32) (x6 : FVec Ideal S512 .f32)
  (x7 : FVec Ideal S512x1 .f32) (x8 : FVec Ideal S1 .f32)

/-- The precondition, element by element: every length is from 0 to 2048; the mask of a row is one if the row is before the
    length and else zero; the weights of the first two layers are finite. -/
theorem padded (h : fn (F := Ideal) x0 x1 x2 x3 x4 x5 x6 x7 x8 = fun _ => 1#1) :
    (∀ t : Fin 16, 0 ≤ (x2 (ix1 t)).toInt ∧ (x2 (ix1 t)).toInt ≤ 2048)
      ∧ (∀ (t : Fin 16) (R : Fin 2048), (x1 (ix3 t R 0) : EReal) = if ((R.val : ℕ) : ℤ) < (x2 (ix1 t)).toInt then 1 else 0)
      ∧ (∀ i k, max (x3 (ix2 i k) : EReal) (-(x3 (ix2 i k) : EReal)) < ⊤)
      ∧ (∀ k j, max (x5 (ix2 k j) : EReal) (-(x5 (ix2 k j) : EReal)) < ⊤) := by
  haveI : Subsingleton S_.Idx := ⟨fun a b => funext fun i => i.elim0⟩
  have h0 := congrFun h ix0
  unfold fn fn_part1 at h0
  obtain ⟨h0, e5⟩ := andi_split _ _ h0
  obtain ⟨h0, e3⟩ := andi_split _ _ h0
  obtain ⟨e2, e1⟩ := andi_split _ _ h0
  replace e2 := Host.reduce_andi_all _ _ _ _ _ e2
  replace e1 := Host.reduce_andi_all _ _ _ _ _ e1
  replace e3 := Host.reduce_andi_all _ _ _ _ _ e3
  replace e5 := Host.reduce_andi_all _ _ _ _ _ e5
  refine ⟨fun t => ?_, fun t R => ?_, fun i k => ?_, fun k j => ?_⟩
  · obtain ⟨lo, hi⟩ := IntOp.andi_eq_one.mp (e2 (ix1 t))
    exact ⟨IntOp.cmpi_sge.mp lo, IntOp.cmpi_sle.mp hi⟩
  · have e := e1 (ix3 t R 0)
    pointwise [fn_where, id] at e
    exact (of_ofBool e).trans (Cert.KernelIdeal.Own.select_before R.val (by omega) (x2 (ix1 t)) 1 0)
  · exact abs_lt _ (e3 (ix2 i k))
  · exact abs_lt _ (e5 (ix2 k j))

end Cert.Pre_padded_batch.Own

end
-- ==== Proof.Own.ReferenceValue.lean ====
/- What the reference computes at a batch entry. -/
module

public import proofs.«01_k».proof.Proof.Gen.ReferenceIdeal.Run
public import proofs.«01_k».proof.Proof.Own.Maths
public import Idealize.ShloMosaic.Lib.Pointwise

@[expose] public section

set_option maxRecDepth 16384

noncomputable section

namespace Cert.ReferenceIdeal.Own

open Idealize.ShloMosaic Idealize.ShloMosaic.TcCoe
open Cert.KernelIdeal.Own (layer)
open Cert.ReferenceIdeal Cert.ReferenceIdeal.Gen

/-- The reference's result at batch entry `t`: each row through the three layers, times its mask, added up. -/
theorem reference_at (x0 : FVec Ideal S16x2048x256 .f32) (x1 : FVec Ideal S16x2048x1 .f32) (x3 : FVec Ideal S256x512 .f32) (x4 : FVec Ideal S512 .f32) (x5 : FVec Ideal S512x512 .f32) (x6 : FVec Ideal S512 .f32) (x7 : FVec Ideal S512x1 .f32) (x8 : FVec Ideal S1 .f32) (t : Fin 16) :
   ((Host.reduceAdd (mulf (shapeCast _ (addf (Host.dotGeneral dot_S32768x512_S512x1_S32768x1_1_0_0_1_n_n none (maximumf (addf (Host.dotGeneral dot_S32768x512_S512x512_S32768x512_1_0_0_1_n_n none (maximumf (addf (Host.dotGeneral dot_S32768x256_S256x512_S32768x512_1_0_0_1_n_n none (shapeCast _ x0 shapeCasts_S16x2048x256_S32768x256) x3) (broadcastInDim S32768x512 ![0, 1] bcast_S1x512_S32768x512_0_1 (broadcastInDim S1x512 ![1] bcast_S512_S1x512_1 x4))) (broadcastInDim S32768x512 ![] bcast_S_S32768x512 (constant (F := Ideal) S_ .f32 0x00000000#32))) x5) (broadcastInDim S32768x512 ![0, 1] bcast_S1x512_S32768x512_0_1 (broadcastInDim S1x512 ![1] bcast_S512_S1x512_1 x6))) (broadcastInDim S32768x512 ![] bcast_S_S32768x512 (constant (F := Ideal) S_ .f32 0x00000000#32))) x7) (broadcastInDim S32768x1 ![0, 1] bcast_S1x1_S32768x1_0_1 (broadcastInDim S1x1 ![1] bcast_S1_S1x1_1 x8))) shapeCasts_S32768x1_S16x2048) (shapeCast _ x1 shapeCasts_S16x2048x1_S16x2048)) (constant (F := Ideal) S_ .f32 0x00000000#32) reducesTo_S16x2048_S16_d1 h_S_) (ix1 t) : EReal)
      = ∑ R : Fin 2048, ((∑ j : Fin 512,
          layer (layer (fun i => (x0 (ix3 t R i) : EReal)) (fun i k => (x3 (ix2 i k) : EReal)) (fun k => (x4 (ix1 k) : EReal)))
            (fun k j => (x5 (ix2 k j) : EReal)) (fun j => (x6 (ix1 j) : EReal)) j * (x7 (ix2 j 0) : EReal)) + (x8 (ix1 0) : EReal))
          * (x1 (ix3 t R 0) : EReal) := by
  pointwise
  rfl

end Cert.ReferenceIdeal.Own

end
-- ==== Proof.Own.Equation.lean ====
/- The equation: under the precondition the word that the kernel stores for a batch entry is the reference's result there. -/
module

public import proofs.«01_k».proof.Proof.Own.Blocks
public import proofs.«01_k».proof.Proof.Own.Precondition
public import proofs.«01_k».proof.Proof.Own.ReferenceValue

@[expose] public section

set_option maxRecDepth 16384

noncomputable section

namespace Cert.KernelIdeal.Own

open Idealize.ShloMosaic Idealize.ShloMosaic.TcCoe
open Cert.KernelIdeal.Gen

variable (m : (ℓ : Loc nD τ sig) → Buf (Elt Ideal) ℓ) (c : Dev nD)

/-- The mask of row `R` of batch entry `t`. -/
def mask (t : Fin 16) (R : Fin 2048) : EReal := m ((c.tc : Thread nD τ).loc main_arg1) (ix3 t R 0)

/-- Under the precondition the word is the sum, over all 2048 rows, of the last layer's output at the row times the row's mask. -/
theorem word_eq_masked
    (hlen : ∀ t, 0 ≤ (len m c t).toInt ∧ (len m c t).toInt ≤ 2048)
    (hmask : ∀ t R, mask m c t R = if ((R.val : ℕ) : ℤ) < (len m c t).toInt then 1 else 0)
    (h1 : ∀ i k, max (weight1 m c i k) (-(weight1 m c i k)) < ⊤) (h2 : ∀ k j, max (weight2 m c k j) (-(weight2 m c k j)) < ⊤)
    (t : Fin (pipe m).N) :
    (wordAt m c t : EReal)
      = ∑ R : Fin 2048, (∑ j : Fin 512, feature m c (entryOf m t) R.val j * weight3 m c j + bias3 m c) * mask m c (entryOf m t) R := by
  obtain ⟨n, hn⟩ := Int.eq_ofNat_of_zero_le (hlen (entryOf m t)).1
  have hle : n ≤ 2048 := by have := (hlen (entryOf m t)).2; omega
  refine (wordAt_eq m c (fun i k => sub_self_of_abs_lt (h1 i k)) (fun k j => sub_self_of_abs_lt (h2 k j)) t).trans ?_
  simp only [hmask, hn, Nat.cast_lt, Int.cast_natCast]
  exact entry_eq n hle (feature m c (entryOf m t)) (fun R j => layer_nonneg _ _ _ _) (weight3 m c) (bias3 m c)

/-- Row `R`'s elements are the argument's. -/
theorem row_of_fin (t : Fin 16) (R : Fin 2048) :
    row m c t R.val = fun i => (m ((c.tc : Thread nD τ).loc main_arg0) (ix3 t R i) : EReal) := by
  funext i
  rw [row, dif_pos R.isLt]

/-- Under the precondition the word of entry `t` is the reference's sum over the rows, in the arguments' elements. -/
theorem word_eq_reference
    (hpre : Cert.Pre_padded_batch.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = fun _ => 1#1)
    (t : Fin (pipe m).N) :
    (wordAt m c t : EReal)
      = ∑ R : Fin 2048, ((∑ j : Fin 512,
          layer (layer (fun i => (m ((c.tc : Thread nD τ).loc main_arg0) (ix3 (entryOf m t) R i) : EReal)) (weight1 m c) (bias1 m c))
            (weight2 m c) (bias2 m c) j * weight3 m c j) + bias3 m c) * mask m c (entryOf m t) R := by
  obtain ⟨hlen, hmask, h1, h2⟩ := Cert.Pre_padded_batch.Own.padded _ _ _ _ _ _ _ _ _ hpre
  refine (word_eq_masked m c hlen hmask h1 h2 t).trans (Finset.sum_congr rfl fun R _ => ?_)
  unfold feature
  rw [row_of_fin]

end Cert.KernelIdeal.Own

end
-- ==== Proof.lean ====
module

public import proofs.«01_k».proof.Defs
public import proofs.«01_k».proof.Proof.Own.SameProgram
public import proofs.«01_k».proof.Proof.Own.Output
public import proofs.«01_k».proof.Proof.Own.Equation
public import Idealize.ShloMosaic.Lib.Claim

@[expose] public section

set_option maxRecDepth 16384

noncomputable section

namespace Cert.Proof

open Idealize.ShloMosaic Idealize.SL.Sem

/-- The kernel runs, leaves its arguments as they were, and every counter at zero. -/
theorem frame_kernel : Cert.quiescent_Kernel := fun m g _ => by
  rw [Cert.Kernel.Own.defs_eq, Cert.Kernel.Own.main_eq]
  exact (θ_run (Cert.KernelIdeal.defs (F := Bits)) _ _).mono
    (fun _ h => ⟨Cert.KernelIdeal.Own.args_unchanged m (Cert.KernelIdeal.Own.relData m) (Cert.KernelIdeal.Own.data_A m) h.1, h.2⟩)
    (Cert.KernelIdeal.Own.run_main m g)

/-- The kernel's ideal reading runs, leaves its arguments as they were, and every counter at zero. -/
theorem frame_ideal : Cert.quiescent_KernelIdeal := fun m g _ =>
  (θ_run (Cert.KernelIdeal.defs (F := Ideal)) _ _).mono
    (fun _ h => ⟨Cert.KernelIdeal.Own.args_unchanged m (Cert.KernelIdeal.Own.relData m) (Cert.KernelIdeal.Own.data_A m) h.1, h.2⟩)
    (Cert.KernelIdeal.Own.run_main m g)

/-- The reference's ideal reading runs and leaves its arguments as they were; it declares no semaphore. -/
theorem frame_reference : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run m g)

/-- Of arguments that meet the precondition, the kernel's ideal reading and the reference's end with equal results. -/
theorem results_equal : Cert.algebraic_KernelIdeal_ReferenceIdeal_pre_padded_batch := by
  intro m g m' g' hpre hagree
  refine ⟨fun c j => Cert.KernelIdeal.Own.wordAt m c (j 0), ?_, ?_⟩
  · refine (θ_run (Cert.KernelIdeal.defs (F := Ideal)) _ _).mono (fun r h c => ⟨?_,
      Cert.KernelIdeal.Own.args_unchanged m (Cert.KernelIdeal.Own.relData m) (Cert.KernelIdeal.Own.data_A m) h.1 c⟩)
      (Cert.KernelIdeal.Own.run_main m g)
    funext j
    refine (congrArg _ (eq_ix1 j)).trans (Cert.KernelIdeal.Own.result_words m h.1 c (j 0))
  · refine (θ_run (Cert.ReferenceIdeal.defs (F := Ideal)) _ _).mono (fun r h c => ⟨(h c).1.trans ?_, (h c).2⟩)
      (Cert.ReferenceIdeal.Value.run m' g')
    obtain ⟨a0, a1, a2, a3, a4, a5, a6, a7, a8⟩ := hagree c
    rw [a0, a1, a3, a4, a5, a6, a7, a8]
    funext j
    refine (congrArg _ (eq_ix1 j)).trans ((Cert.ReferenceIdeal.Own.reference_at _ _ _ _ _ _ _ _ (j 0)).trans ?_)
    exact (Cert.KernelIdeal.Own.word_eq_reference m c (hpre c) (j 0)).symm

/-- Everything claimed. -/
theorem claim : Cert.Claim :=
  ⟨Cert.Kernel.Gen.facts, Cert.KernelIdeal.Gen.facts, Cert.ReferenceIdeal.Gen.facts, Cert.Pre_padded_batch.Gen.facts,
    frame_kernel, frame_ideal, fun m g _ => frame_ideal m g trivial, frame_reference,
    fun m g _ => frame_reference m g trivial, trivial, results_equal⟩

end Cert.Proof

end
